-- ==== Defs.lean ====
def Pre_Kernel [hPre_rows_in_range : Cert.Pre_rows_in_range.Facts] (m : (ℓ : Loc Cert.Kernel.nD Cert.Kernel.τ Cert.Kernel.sig) → Buf (Elt Bits) ℓ) : Prop :=
  ∀ c : Dev Cert.Kernel.nD,
    (Cert.Pre_rows_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_rows_in_range : Cert.Pre_rows_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_in_range [hPre_rows_in_range : Cert.Pre_rows_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_rows_in_range : Cert.Pre_rows_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_rows_in_range [hReferenceIdeal : Cert.ReferenceIdeal.Facts] [hPre_rows_in_range : Cert.Pre_rows_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_range : Cert.Pre_rows_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_rows_in_range : Cert.Pre_rows_in_range.Facts),
    quiescent_Kernel (hKernel := hKernel) (hPre_rows_in_range := hPre_rows_in_range)
    ∧ quiescent_KernelIdeal (hKernelIdeal := hKernelIdeal) (hPre_rows_in_range := hPre_rows_in_range)
    ∧ quiescent_ReferenceIdeal (hReferenceIdeal := hReferenceIdeal)
    ∧ quiescent_ReferenceIdeal_pre_rows_in_range (hReferenceIdeal := hReferenceIdeal) (hPre_rows_in_range := hPre_rows_in_range)
    ∧ preserves_Kernel_KernelIdeal
    ∧ algebraic_KernelIdeal_ReferenceIdeal (hKernelIdeal := hKernelIdeal) (hReferenceIdeal := hReferenceIdeal) (hPre_rows_in_range := hPre_rows_in_range)
-- ==== Pre_rows_in_range.lean ====
abbrev S10000x128 : Shape := ⟨2, ![10000, 128]⟩
abbrev S4096 : Shape := ⟨1, ![4096]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : FVec F S10000x128 .f32) (main_arg1 : IVec S4096 32) (main_arg2 : FVec F S10000x10000 .f32) (main_arg3 : FVec F S128x128 .f32) (main_arg4 : FVec F S128 .f32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 10000#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Kernel.lean ====
abbrev S10000x128 : Shape := ⟨2, ![10000, 128]⟩
abbrev S4096 : Shape := ⟨1, ![4096]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S4096x128 : Shape := ⟨2, ![4096, 128]⟩
abbrev S256x128 : Shape := ⟨2, ![256, 128]⟩
abbrev S4x256x10000 : Shape := ⟨3, ![4, 256, 10000]⟩
abbrev S4 : Shape := ⟨1, ![4]⟩
abbrev S_ : Shape := ⟨0, ![]⟩
abbrev S1 : Shape := ⟨1, ![1]⟩
abbrev S1x1x10000 : Shape := ⟨3, ![1, 1, 10000]⟩
abbrev S10000 : Shape := ⟨1, ![10000]⟩
abbrev S1x10000 : Shape := ⟨2, ![1, 10000]⟩
abbrev S1x256x10000 : Shape := ⟨3, ![1, 256, 10000]⟩
abbrev S256x10000 : Shape := ⟨2, ![256, 10000]⟩

abbrev nBuf : Space → Nat
  | .hbm => 6
  | .vmem => 7
  | .smem => 1
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S4096x128, .f32⟩
  | .local _ .vmem, ⟨0, _⟩ => ⟨S128x128, .f32⟩
  | .local _ .vmem, ⟨1, _⟩ => ⟨S1x128, .f32⟩
  | .local _ .vmem, ⟨2, _⟩ => ⟨S256x128, .f32⟩
  | .local _ .vmem, ⟨3, _⟩ => ⟨S256x128, .f32⟩
  | .local _ .vmem, ⟨4, _⟩ => ⟨S10000x128, .bf16⟩
  | .local _ .vmem, ⟨5, _⟩ => ⟨S4x256x10000, .f32⟩
  | .local _ .vmem, ⟨6, _⟩ => ⟨S10000x128, .f32⟩
  | .local _ .smem, ⟨0, _⟩ => ⟨S4096, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_10 : BitVec 32 := 0#32
  let c256_i32_11 : BitVec 32 := 256#32
  let v18 : BitVec 32 := Scalar.addi c0_i32_10 c256_i32_11
  let c1_i32_12 : BitVec 32 := 1#32
  ⟨c0_i32_10, v18, c1_i32_12⟩
def k0_off1 (k0_t1 : Fin k0_t1_loop.trips) : Fin 1 → Nat :=
  let c0_i32_35 : BitVec 32 := 0#32
  let c0_i32_10 : BitVec 32 := 0#32
  let c1_i32_12 : BitVec 32 := 1#32
  let arg12 : BitVec 32 := Scf.iv c0_i32_10 c1_i32_12 k0_t1
  let v33 : BitVec 32 := Scalar.addi c0_i32_35 arg12
  let v34 : Index := Scalar.indexCast v33
  ![v34.toNat]
def k0_off2 (k0_t1 : Fin k0_t1_loop.trips) : Fin 3 → Nat :=
  let c0_i32_36 : BitVec 32 := 0#32
  let c0_i32_10 : BitVec 32 := 0#32
  let c1_i32_12 : BitVec 32 := 1#32
  let arg12 : BitVec 32 := Scf.iv c0_i32_10 c1_i32_12 k0_t1
  let c0_i32_38 : BitVec 32 := 0#32
  ![0, arg12.toNat, 0]
def k0_off3 (v35 : BitVec 32) : Fin 2 → Nat :=
  let c0_i32_39 : BitVec 32 := 0#32
  ![v35.toNat, 0]

def k0_chk1 (i : grid0.Coords) (v35 : BitVec 32) : Prop :=
  (∀ (k0_h1 : k0_cond1 i = 1#1), ∀ a, (k0_off3 v35) a + S1x10000.size a ≤ S10000x10000.size a)
theorem k0_off3_inb : ∀ (i : grid0.Coords) (v35 : BitVec 32) (k0_hw1 : k0_chk1 i v35), ∀ (k0_h1 : k0_cond1 i = 1#1), ∀ a, (k0_off3 v35) a + S1x10000.size a ≤ S10000x10000.size a := fun i v35 k0_hw1 k0_h1 => k0_hw1 k0_h1

@[reducible] def k0_t2_loop : Scf.Loop 32 :=
  let c0_i32_14 : BitVec 32 := 0#32
  let c256_i32_15 : BitVec 32 := 256#32
  let v19 : BitVec 32 := Scalar.addi c0_i32_14 c256_i32_15
  let c1_i32_16 : BitVec 32 := 1#32
  ⟨c0_i32_14, v19, c1_i32_16⟩
def k0_off4 (k0_t2 : Fin k0_t2_loop.trips) : Fin 1 → Nat :=
  let c256_i32_35 : BitVec 32 := 256#32
  let c0_i32_14 : BitVec 32 := 0#32
  let c1_i32_16 : BitVec 32 := 1#32
  let arg12 : BitVec 32 := Scf.iv c0_i32_14 c1_i32_16 k0_t2
  let v33 : BitVec 32 := Scalar.addi c256_i32_35 arg12
  let v34 : Index := Scalar.indexCast v33
  ![v34.toNat]
def k0_off5 (k0_t2 : Fin k0_t2_loop.trips) : Fin 3 → Nat :=
  let c1_i32_36 : BitVec 32 := 1#32
  let c0_i32_14 : BitVec 32 := 0#32
  let c1_i32_16 : BitVec 32 := 1#32
  let arg12 : BitVec 32 := Scf.iv c0_i32_14 c1_i32_16 k0_t2
  let c0_i32_38 : BitVec 32 := 0#32
  ![1, arg12.toNat, 0]
def k0_off6 (v35 : BitVec 32) : Fin 2 → Nat :=
  let c0_i32_39 : BitVec 32 := 0#32
  ![v35.toNat, 0]

def k0_chk2 (i : grid0.Coords) (v35 : BitVec 32) : Prop :=
  (∀ (k0_h1 : k0_cond1 i = 1#1), ∀ a, (k0_off6 v35) a + S1x10000.size a ≤ S10000x10000.size a)
theorem k0_off6_inb : ∀ (i : grid0.Coords) (v35 : BitVec 32) (k0_hw2 : k0_chk2 i v35), ∀ (k0_h1 : k0_cond1 i = 1#1), ∀ a, (k0_off6 v35) a + S1x10000.size a ≤ S10000x10000.size a := fun i v35 k0_hw2 k0_h1 => k0_hw2 k0_h1

@[reducible] def k0_t3_loop : Scf.Loop 32 :=
  let c0_i32_18 : BitVec 32 := 0#32
  let c256_i32_19 : BitVec 32 := 256#32
  let v20 : BitVec 32 := Scalar.addi c0_i32_18 c256_i32_19
  let c1_i32_20 : BitVec 32 := 1#32
  ⟨c0_i32_18, v20, c1_i32_20⟩
def k0_off7 (k0_t3 : Fin k0_t3_loop.trips) : Fin 1 → Nat :=
  let c512_i32 : BitVec 32 := 512#32
  let c0_i32_18 : BitVec 32 := 0#32
  let c1_i32_20 : BitVec 32 := 1#32
  let arg12 : BitVec 32 := Scf.iv c0_i32_18 c1_i32_20 k0_t3
  let v33 : BitVec 32 := Scalar.addi c512_i32 arg12
  let v34 : Index := Scalar.indexCast v33
  ![v34.toNat]
def k0_off8 (k0_t3 : Fin k0_t3_loop.trips) : Fin 3 → Nat :=
  let c2_i32 : BitVec 32 := 2#32
  let c0_i32_18 : BitVec 32 := 0#32
  let c1_i32_20 : BitVec 32 := 1#32
  let arg12 : BitVec 32 := Scf.iv c0_i32_18 c1_i32_20 k0_t3
  let c0_i32_36 : BitVec 32 := 0#32
  ![2, arg12.toNat, 0]
def k0_off9 (v35 : BitVec 32) : Fin 2 → Nat :=
  let c0_i32_37 : BitVec 32 := 0#32
  ![v35.toNat, 0]

def k0_chk3 (i : grid0.Coords) (v35 : BitVec 32) : Prop :=
  (∀ (k0_h1 : k0_cond1 i = 1#1), ∀ a, (k0_off9 v35) a + S1x10000.size a ≤ S10000x10000.size a)
theorem k0_off9_inb : ∀ (i : grid0.Coords) (v35 : BitVec 32) (k0_hw3 : k0_chk3 i v35), ∀ (k0_h1 : k0_cond1 i = 1#1), ∀ a, (k0_off9 v35) a + S1x10000.size a ≤ S10000x10000.size a := fun i v35 k0_hw3 k0_h1 => k0_hw3 k0_h1

@[reducible] def k0_t4_loop : Scf.Loop 32 :=
  let c0_i32_22 : BitVec 32 := 0#32
  let c256_i32_23 : BitVec 32 := 256#32
  let v21 : BitVec 32 := Scalar.addi c0_i32_22 c256_i32_23
  let c1_i32_24 : BitVec 32 := 1#32
  ⟨c0_i32_22, v21, c1_i32_24⟩
def k0_off10 (k0_t4 : Fin k0_t4_loop.trips) : Fin 1 → Nat :=
  let c768_i32 : BitVec 32 := 768#32
  let c0_i32_22 : BitVec 32 := 0#32
  let c1_i32_24 : BitVec 32 := 1#32
  let arg12 : BitVec 32 := Scf.iv c0_i32_22 c1_i32_24 k0_t4
  let v33 : BitVec 32 := Scalar.addi c768_i32 arg12
  let v34 : Index := Scalar.indexCast v33
  ![v34.toNat]
def k0_off11 (k0_t4 : Fin k0_t4_loop.trips) : Fin 3 → Nat :=
  let c3_i32_35 : BitVec 32 := 3#32
  let c0_i32_22 : BitVec 32 := 0#32
  let c1_i32_24 : BitVec 32 := 1#32
  let arg12 : BitVec 32 := Scf.iv c0_i32_22 c1_i32_24 k0_t4
  let c0_i32_37 : BitVec 32 := 0#32
  ![3, arg12.toNat, 0]
def k0_off12 (v35 : BitVec 32) : Fin 2 → Nat :=
  let c0_i32_38 : BitVec 32 := 0#32
  ![v35.toNat, 0]

def k0_chk4 (i : grid0.Coords) (v35 : BitVec 32) : Prop :=
  (∀ (k0_h1 : k0_cond1 i = 1#1), ∀ a, (k0_off12 v35) a + S1x10000.size a ≤ S10000x10000.size a)
theorem k0_off12_inb : ∀ (i : grid0.Coords) (v35 : BitVec 32) (k0_hw4 : k0_chk4 i v35), ∀ (k0_h1 : k0_cond1 i = 1#1), ∀ a, (k0_off12 v35) a + S1x10000.size a ≤ S10000x10000.size a := fun i v35 k0_hw4 k0_h1 => k0_hw4 k0_h1

def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let c3_i32 : BitVec 32 := 3#32
  let v5 : BitVec 32 := Scalar.addi arg0 c3_i32
  let c16_i32 : BitVec 32 := 16#32
  let v6 : BitVec 1 := Scalar.cmpi .slt v5 c16_i32
  let v7 : BitVec 1 := Scalar.andi v4 v6
  let v8 : BitVec 32 := Scalar.extui v7
  let c0_i32_2 : BitVec 32 := 0#32
  let v9 : BitVec 1 := Scalar.cmpi .ne v8 c0_i32_2
  v9

@[reducible] def k0_t5_loop : Scf.Loop 32 :=
  let c0_i32_13 : BitVec 32 := 0#32
  let c256_i32_14 : BitVec 32 := 256#32
  let v21 : BitVec 32 := Scalar.addi c0_i32_13 c256_i32_14
  let c1_i32_15 : BitVec 32 := 1#32
  ⟨c0_i32_13, v21, c1_i32_15⟩
def k0_off13 (i : grid0.Coords) (k0_t5 : Fin k0_t5_loop.trips) : Fin 1 → Nat :=
  let arg0 : BitVec 32 := BitVec.ofNat 32 (i 0).val
  let c3_i32_10 : BitVec 32 := 3#32
  let v18 : BitVec 32 := Scalar.addi arg0 c3_i32_10
  let c256_i32_17 : BitVec 32 := 256#32
  let v22 : BitVec 32 := Scalar.muli v18 c256_i32_17
  let c0_i32_13 : BitVec 32 := 0#32
  let c1_i32_15 : BitVec 32 := 1#32
  let arg12 : BitVec 32 := Scf.iv c0_i32_13 c1_i32_15 k0_t5
  let v23 : BitVec 32 := Scalar.addi v22 arg12
  let v24 : Index := Scalar.indexCast v23
  ![v24.toNat]
def k0_off14 (i : grid0.Coords) : Fin 1 → Nat :=
  let arg0 : BitVec 32 := BitVec.ofNat 32 (i 0).val
  let c3_i32_11 : BitVec 32 := 3#32
  let v19 : BitVec 32 := Scalar.addi arg0 c3_i32_11
  let c4_i32_12 : BitVec 32 := 4#32
  let v20 : BitVec 32 := Scalar.remsi v19 c4_i32_12
  ![v20.toNat]
def k0_off15 (i : grid0.Coords) (k0_t5 : Fin k0_t5_loop.trips) : Fin 3 → Nat :=
  let arg0 : BitVec 32 := BitVec.ofNat 32 (i 0).val
  let c3_i32_11 : BitVec 32 := 3#32
  let v19 : BitVec 32 := Scalar.addi arg0 c3_i32_11
  let c4_i32_12 : BitVec 32 := 4#32
  let v20 : BitVec 32 := Scalar.remsi v19 c4_i32_12
  let c0_i32_13 : BitVec 32 := 0#32
  let c1_i32_15 : BitVec 32 := 1#32
  let arg12 : BitVec 32 := Scf.iv c0_i32_13 c1_i32_15 k0_t5
  let c0_i32_18 : BitVec 32 := 0#32
  ![v20.toNat, arg12.toNat, 0]
def k0_off16 (v25 : BitVec 32) : Fin 2 → Nat :=
  let c0_i32_19 : BitVec 32 := 0#32
  ![v25.toNat, 0]

def k0_chk5 (i : grid0.Coords) (v25 : BitVec 32) : Prop :=
  (∀ (k0_h2 : k0_cond2 i = 1#1), ∀ a, (k0_off16 v25) a + S1x10000.size a ≤ S10000x10000.size a)
theorem k0_off16_inb : ∀ (i : grid0.Coords) (v25 : BitVec 32) (k0_hw5 : k0_chk5 i v25), ∀ (k0_h2 : k0_cond2 i = 1#1), ∀ a, (k0_off16 v25) a + S1x10000.size a ≤ S10000x10000.size a := fun i v25 k0_hw5 k0_h2 => k0_hw5 k0_h2

@[reducible] def k0_t6_loop : Scf.Loop 32 :=
  let c0_i32_3 : BitVec 32 := 0#32
  let c256_i32 : BitVec 32 := 256#32
  let v10 : BitVec 32 := Scalar.addi c0_i32_3 c256_i32
  let c1_i32 : BitVec 32 := 1#32
  ⟨c0_i32_3, v10, c1_i32⟩
def k0_off17 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off18 (i : grid0.Coords) (k0_t6 : Fin k0_t6_loop.trips) : Fin 3 → Nat :=
  let arg0 : BitVec 32 := BitVec.ofNat 32 (i 0).val
  let c4_i32 : BitVec 32 := 4#32
  let v0 : BitVec 32 := Scalar.remsi arg0 c4_i32
  let c0_i32_3 : BitVec 32 := 0#32
  let c1_i32 : BitVec 32 := 1#32
  let arg12 : BitVec 32 := Scf.iv c0_i32_3 c1_i32 k0_t6
  let c0_i32_11 : BitVec 32 := 0#32
  ![v0.toNat, arg12.toNat, 0]
def k0_off19 (i : grid0.Coords) : Fin 3 → Nat :=
  let arg0 : BitVec 32 := BitVec.ofNat 32 (i 0).val
  let c4_i32 : BitVec 32 := 4#32
  let v0 : BitVec 32 := Scalar.remsi arg0 c4_i32
  let v11 : Index := Scalar.indexCast v0
  let c0 : Index := 0#32
  let c0_5 : Index := 0#32
  ![v11.toNat, 0, 0]
def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x128 : Shape := ⟨2, ![10000, 128]⟩
abbrev S4096 : Shape := ⟨1, ![4096]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x10000 : Shape := ⟨2, ![4096, 10000]⟩
abbrev S4096x128 : Shape := ⟨2, ![4096, 128]⟩

abbrev nBuf : Space → Nat
  | .hbm => 33
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S4096, .i32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S1, .i32⟩
  | .hbm, ⟨18, _⟩ => ⟨S_, .i32⟩
  | .hbm, ⟨19, _⟩ => ⟨S4096x1, .i32⟩
  | .hbm, ⟨20, _⟩ => ⟨S4096x1, .i1⟩
  | .hbm, ⟨21, _⟩ => ⟨S1x1, .i32⟩
  | .hbm, ⟨22, _⟩ => ⟨S4096x1, .i32⟩
  | .hbm, ⟨23, _⟩ => ⟨S4096x1, .i1⟩
  | .hbm, ⟨24, _⟩ => ⟨S4096x1, .i1⟩
  | .hbm, ⟨25, _⟩ => ⟨S_, .i1⟩
  | .hbm, ⟨26, _⟩ => ⟨S4096, .i1⟩
  | .hbm, ⟨27, _⟩ => ⟨S4096x10000, .f32⟩
  | .hbm, ⟨28, _⟩ => ⟨S4096x10000, .i1⟩
  | .hbm, ⟨29, _⟩ => ⟨S_, .f32⟩
  | .hbm, ⟨30, _⟩ => ⟨S4096x10000, .f32⟩
  | .hbm, ⟨31, _⟩ => ⟨S4096x10000, .f32⟩
  | .hbm, ⟨32, _⟩ => ⟨S4096x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_v5 : Ref sig .tc := ⟨.hbm, 32, rfl⟩

abbrev nD : Nat := 1
abbrev τ : Topo := Topo.v7x

variable {F : FTy → Type} [FloatOps F]
-- ==== Proof.Ring.lean ====
/- The gather ring's geometry and its states: the rows of the four-slot buffer, the copies in flight on a slot's
   semaphore, and the states a slot passes through. -/
module

public import proofs.«01_k».proof.Proof.Gen.KernelIdeal
public import proofs.«01_k».proof.Proof.Gen.KernelIdeal.Skeleton
public import proofs.«01_k».proof.Proof.Gen.KernelIdeal.Launch
public import Idealize.ShloMosaic.Lib.Batch
public import Idealize.ShloMosaic.Lib.Ring
public import Idealize.ShloMosaic.Lib.Tactic
public import Idealize.ShloMosaic.Lib.ValueIdx
public import Idealize.ShloMosaic.Lib.Pipeline.Frame

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

/-- The resource algebra: the pipeline's ghost state beside the transfers' counters. -/
abbrev UU : Type := Pipeline.UD sig nD τ

local notation "𝕄" => MT nD τ sig Unit (Elt F) ℕ UU ℕ

/-! ## Rows -/

/-- The rows' numbers and the slots are in range of the buffer. -/
theorem row_inb (s r : ℕ) (hs : s < 4) (hr : r < 256) :
    ∀ a, (![s, r, 0] : Fin 3 → ℕ) a + S1x1x10000.size a ≤ S4x256x10000.size a := by
  intro a; fin_cases a
  · show s + 1 ≤ 4; omega
  · show r + 1 ≤ 256; omega
  · show 0 + 10000 ≤ 10000; omega

/-- Row `r` of slot `s` of the ring buffer. -/
def rowDst (s r : ℕ) (hs : s < 4) (hr : r < 256) : Memref sig .tc .vmem S10000 .f32 :=
  ((Memref.whole cc0_scratch1).slice (Rect.unit (s := S4x256x10000) ![s, r, 0] S1x1x10000.size (row_inb s r hs hr)) (fun _ => rfl)).squeeze
    S10000 squeezes_S1x1x10000_S10000

/-- A row number is in range of the table of rows. -/
theorem src_inb (j : ℕ) (hj : j < 10000) :
    ∀ a, (![j, 0] : Fin 2 → ℕ) a + S1x10000.size a ≤ S10000x10000.size a := by
  intro a; fin_cases a
  · show j + 1 ≤ 10000; omega
  · show 0 + 10000 ≤ 10000; omega

/-- Row `j` of the table of rows. -/
def rowSrc (j : ℕ) (hj : j < 10000) : Memref sig .tc .hbm S10000 .f32 :=
  ((Memref.whole main_arg2).slice (Rect.unit (s := S10000x10000) ![j, 0] S1x10000.size (src_inb j hj)) (fun _ => rfl)).squeeze
    S10000 squeezes_S1x10000_S10000

/-- The slot's semaphore is one of the four. -/
theorem cell_inb (s : ℕ) (hs : s < 4) : ∀ a, (![s] : Fin 1 → ℕ) a + S1.size a ≤ S4.size a := by
  intro a; fin_cases a; show s + 1 ≤ 4; omega

/-- Slot `s`'s semaphore. -/
def cell (s : ℕ) (hs : s < 4) : DmaSem sig :=
  ((cc0_scratch3.slice (Rect.unit (s := S4) ![s] S1.size (cell_inb s hs))).squeeze S_ squeezes_S1_S_).sem

/-! ## Their element sets -/

/-- The elements of row `r` of slot `s`. -/
def rowSet (s r : ℕ) : Finset S4x256x10000.Idx := Finset.univ.filter fun y => (y 0).val = s ∧ (y 1).val = r
/-- The elements of slot `s`. -/
def slotSet (s : ℕ) : Finset S4x256x10000.Idx := Finset.univ.filter fun y => (y 0).val = s
/-- The elements of row `j` of the table of rows. -/
def srcSet (j : ℕ) : Finset S10000x10000.Idx := Finset.univ.filter fun y => (y 0).val = j

theorem set_rowDst (s r : ℕ) (hs : s < 4) (hr : r < 256) : (rowDst s r hs hr).view.set = rowSet s r := by
  unfold rowDst
  refine ((View.set_reshape _ _).trans (View.set_slice_whole _ _)).trans ?_
  ext y
  have h2 : (y 2).val < 10000 := (y 2).isLt
  rw [Rect.mem_set_unit, rowSet, Finset.mem_filter]
  constructor
  · intro H
    have a0 : s ≤ (y 0).val ∧ (y 0).val < s + 1 := H 0
    have a1 : r ≤ (y 1).val ∧ (y 1).val < r + 1 := H 1
    exact ⟨Finset.mem_univ _, by omega, by omega⟩
  · rintro ⟨-, h0, h1⟩ a; fin_cases a
    · show s ≤ (y 0).val ∧ (y 0).val < s + 1; omega
    · show r ≤ (y 1).val ∧ (y 1).val < r + 1; omega
    · show 0 ≤ (y 2).val ∧ (y 2).val < 0 + 10000; omega

theorem set_rowSrc (j : ℕ) (hj : j < 10000) : (rowSrc j hj).view.set = srcSet j := by
  unfold rowSrc
  refine ((View.set_reshape _ _).trans (View.set_slice_whole _ _)).trans ?_
  ext y
  have h2 : (y 1).val < 10000 := (y 1).isLt
  rw [Rect.mem_set_unit, srcSet, Finset.mem_filter]
  constructor
  · intro H
    have a0 : j ≤ (y 0).val ∧ (y 0).val < j + 1 := H 0
    exact ⟨Finset.mem_univ _, by omega⟩
  · rintro ⟨-, h0⟩ a; fin_cases a
    · show j ≤ (y 0).val ∧ (y 0).val < j + 1; omega
    · show 0 ≤ (y 1).val ∧ (y 1).val < 0 + 10000; omega

theorem rowSet_disjoint (s : ℕ) : ∀ b b' : Fin 256, b ≠ b' → Disjoint (rowSet s b.val) (rowSet s b'.val) := fun b b' hne => by
  rw [Finset.disjoint_left]; intro y hy hy'
  simp only [rowSet, Finset.mem_filter, Finset.mem_univ, true_and] at hy hy'
  exact hne (Fin.ext (by omega))

theorem rowSet_cover (s : ℕ) : Finset.univ.biUnion (fun b : Fin 256 => rowSet s b.val) = slotSet s := by
  ext y
  simp only [rowSet, slotSet, Finset.mem_biUnion, Finset.mem_filter, Finset.mem_univ, true_and]
  constructor
  · rintro ⟨b, h0, -⟩; exact h0
  · intro h0; exact ⟨y 1, h0, rfl⟩

theorem slotSet_disjoint : ∀ b b' : Fin 4, b ≠ b' → Disjoint (slotSet b.val) (slotSet b'.val) := fun b b' hne => by
  rw [Finset.disjoint_left]; intro y hy hy'
  simp only [slotSet, Finset.mem_filter, Finset.mem_univ, true_and] at hy hy'
  exact hne (Fin.ext (by omega))

theorem slotSet_cover : Finset.univ.biUnion (fun b : Fin 4 => slotSet b.val) = Finset.univ := by
  ext y
  simp only [slotSet, Finset.mem_biUnion, Finset.mem_filter, Finset.mem_univ, true_and, iff_true]
  exact ⟨y 0, rfl⟩

/-! ## Where a row's elements lie -/

theorem emb_rowDst (s r : ℕ) (hs : s < 4) (hr : r < 256) (x : S10000.Idx) :
    (rowDst s r hs hr).view.emb x = ix3 (⟨s, hs⟩ : Fin 4) (⟨r, hr⟩ : Fin 256) (x 0 : Fin 10000) := by
  have hx : Shape.reshapeEquiv (s := S1x1x10000) (s' := S10000) squeezes_S1x1x10000_S10000.numel_eq x
      = ix3 (0 : Fin 1) (0 : Fin 1) (x 0 : Fin 10000) := by
    refine Shape.reshapeEquiv_eq_of_rowMajor _ ?_
    refine (Shape.rowMajor_val_three _).trans (Eq.trans ?_ (Shape.rowMajor_val_one x).symm)
    show (0 * 1 + 0) * 10000 + (x 0).val = (x 0).val
    omega
  show (Rect.unit (s := S4x256x10000) ![s, r, 0] S1x1x10000.size (row_inb s r hs hr)).idx
    (Shape.reshapeEquiv (s := S1x1x10000) (s' := S10000) squeezes_S1x1x10000_S10000.numel_eq x) = _
  rw [hx]
  funext a; fin_cases a
  · exact Fin.ext (show s + 1 * 0 = s by omega)
  · exact Fin.ext (show r + 1 * 0 = r by omega)
  · exact Fin.ext (show 0 + 1 * (x 0).val = (x 0).val by omega)

theorem emb_rowSrc (j : ℕ) (hj : j < 10000) (x : S10000.Idx) :
    (rowSrc j hj).view.emb x = ix2 (⟨j, hj⟩ : Fin 10000) (x 0 : Fin 10000) := by
  have hx : Shape.reshapeEquiv (s := S1x10000) (s' := S10000) squeezes_S1x10000_S10000.numel_eq x
      = ix2 (0 : Fin 1) (x 0 : Fin 10000) := by
    refine Shape.reshapeEquiv_eq_of_rowMajor _ ?_
    refine (Shape.rowMajor_val_two _).trans (Eq.trans ?_ (Shape.rowMajor_val_one x).symm)
    show 0 * 10000 + (x 0).val = (x 0).val
    omega
  show (Rect.unit (s := S10000x10000) ![j, 0] S1x10000.size (src_inb j hj)).idx
    (Shape.reshapeEquiv (s := S1x10000) (s' := S10000) squeezes_S1x10000_S10000.numel_eq x) = _
  rw [hx]
  funext a; fin_cases a
  · exact Fin.ext (show j + 1 * 0 = j by omega)
  · exact Fin.ext (show 0 + 1 * (x 0).val = (x 0).val by omega)

/-! ## The gathered rows -/

/-- The row that word `j` of the table of indices names. -/
def rowOf (T : S4096.Idx → BitVec 32) (j : ℕ) : ℕ := if h : j < 4096 then (T (ix1 ⟨j, h⟩)).toNat % 10000 else 0

theorem rowOf_lt (T : S4096.Idx → BitVec 32) (j : ℕ) : rowOf T j < 10000 := by
  unfold rowOf; split
  · exact Nat.mod_lt _ (by omega)
  · omega

theorem rowOf_eq (T : S4096.Idx → BitVec 32) (hT : ∀ y, (T y).toNat < 10000) (j : ℕ) (hj : j < 4096) :
    rowOf T j = (T (ix1 ⟨j, hj⟩)).toNat := by
  unfold rowOf; rw [dif_pos hj, Nat.mod_eq_of_lt (hT _)]

/-- Step `n`'s gathered rows, as the contents of any slot: row `r` is the one word `256 n + r` names. -/
def gathered (T : S4096.Idx → BitVec 32) (P : S10000x10000.Idx → Elt F .f32) (n : ℕ) : S4x256x10000.Idx → Elt F .f32 :=
  fun y => P (ix2 (⟨rowOf T (256 * n + (y 1).val), rowOf_lt _ _⟩ : Fin 10000) (y 2 : Fin 10000))

/-- What the copy of row `r` leaves in its row of slot `s` is step `n`'s gathered row. -/
theorem written (T : S4096.Idx → BitVec 32) (P : S10000x10000.Idx → Elt F .f32) (n s r : ℕ) (hs : s < 4) (hr : r < 256)
    (f : S4x256x10000.Idx → Elt F .f32) :
    ∀ y ∈ rowSet s r, (rowDst s r hs hr).view.write (Elt F) f
      ((rowSrc (rowOf T (256 * n + r)) (rowOf_lt _ _)).view.read (Elt F) P) Finset.univ y = gathered T P n y := by
  intro y hy
  obtain ⟨x, -, rfl⟩ := Finset.mem_map.mp (show y ∈ (rowDst s r hs hr).view.set from (set_rowDst s r hs hr) ▸ hy)
  refine (View.write_emb_of_mem _ _ (Finset.mem_univ x)).trans ?_
  refine (View.read_apply _ _).trans ?_
  refine (congrArg P (emb_rowSrc _ (rowOf_lt _ _) x)).trans ?_
  exact (congrArg (gathered T P n) (emb_rowDst s r hs hr x)).symm

end Cert.KernelIdeal.Gather
end
-- ==== Proof.Issue.lean ====
/- Starting a step's copies: the states of a slot of the gather ring and one trip of the loops that start them. -/
module

public import proofs.«01_k».proof.Proof.Ring

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-! ## A slot's states -/

/-- One row copy's amount on its semaphore. -/
abbrev rowAmt : ℕ := (rowDst 0 0 (by omega) (by omega)).view.dmaCredit

theorem rowAmt_pos : 0 < rowAmt := View.dmaCredit_pos _ (by decide)

theorem rowDst_amt (s r : ℕ) (hs : s < 4) (hr : r < 256) : (rowDst s r hs hr).view.dmaCredit = rowAmt := rfl

/-- The share of the matrix slot `s` reads under. -/
abbrev slotQ (s : ℕ) : PosShare TreeShare := Transfers.shareTokN fullShare s
/-- The share row copy `r` of slot `s` reads under. -/
abbrev rowQ (s r : ℕ) : PosShare TreeShare := Transfers.shareTokN (slotQ s) r

section Slot

variable (c : Dev nD) (T : S4096.Idx → BitVec 32) (P : S10000x10000.Idx → Elt F .f32)

/-- The matrix's elements in `S`, read under `q`. -/
abbrev mat (S : Finset S10000x10000.Idx) (q : PosShare TreeShare) : sProp 𝕄 := (c : Thread nD τ).loc main_arg2 ↦[S]{q} P
/-- The ring buffer's elements in `S`. -/
abbrev ring (S : Finset S4x256x10000.Idx) (f : S4x256x10000.Idx → Elt F .f32) : sProp 𝕄 := (c : Thread nD τ).loc cc0_scratch1 ↦[S]{fullShare} f
/-- The table of indices, at the share the body reads it under. -/
abbrev table : sProp 𝕄 := (c : Thread nD τ).loc main_arg1 ↦[Finset.univ]{fullShare.right} T

/-- What the copy of row `r` of step `n` into slot `s` delivers: the row, and the matrix's row back. -/
def deliver (s n : ℕ) (r : Fin 256) : sProp 𝕄 :=
  iprop(ring c (rowSet s r.val) (gathered T P n) ∗ mat c P (srcSet (rowOf T (256 * n + r.val))) (rowQ s r.val))

instance (s n : ℕ) (r : Fin 256) : Storable (upEmb : UEmb _ 𝕄) (deliver c T P s n r) := by unfold deliver; infer_instance

/-- A row not yet started. -/
def before (s : ℕ) (r : Fin 256) : sProp 𝕄 := iprop((∃ f, ring c (rowSet s r.val) f) ∗ mat c P Finset.univ (rowQ s r.val))
/-- The matrix's other rows, beside a row in flight. -/
def beside (s n : ℕ) (r : Fin 256) : sProp 𝕄 := mat c P (Finset.univ \ srcSet (rowOf T (256 * n + r.val))) (rowQ s r.val)

/-- The slot's copies, `k` of them started. -/
abbrev copies (s : ℕ) (hs : s < 4) (n k u : ℕ) : sProp 𝕄 :=
  Transfers.Batch (Lvl := ℕ) (countersEmb (U := UU)) (c : Thread nD τ) (.dma (cell s hs)) () rowAmt (deliver c T P s n) k u

/-- A slot at rest: its semaphore at zero, its rows at some contents, its share of the matrix. -/
def Idle (s : ℕ) (hs : s < 4) : sProp 𝕄 :=
  iprop(semVal ((c : Thread nD τ), SemLoc.dma (cell s hs)) 0 ∗ (∃ f, ring c (slotSet s) f) ∗ mat c P Finset.univ (slotQ s))

/-- A slot with all of step `n`'s copies started and none awaited. -/
def Flying (s : ℕ) (hs : s < 4) (n : ℕ) : sProp 𝕄 :=
  iprop(copies c T P s hs n 256 0 ∗ mat c P Finset.univ (Transfers.shareDrop (slotQ s) 256) ∗ bigSep Finset.univ (beside c T P s n))

/-- Before trip `k` of the loop that starts step `n`'s copies. -/
def issueInv (s : ℕ) (hs : s < 4) (n k : ℕ) : sProp 𝕄 :=
  iprop(copies c T P s hs n k 0 ∗ bigSep (Ring.rangeSet 256 k 256) (before c P s) ∗ bigSep (Ring.rangeSet 256 0 k) (beside c T P s n) ∗ table c T)

end Slot

/-! ## One trip -/

/-- A trip of a loop that starts the copies, over the offsets its printed text computes. -/
def issueTrip (o1 : Fin 1 → ℕ) (h1 : ∀ a, o1 a + S1.size a ≤ S4096.size a)
    (chk : Elt F .i32 → Prop) (dec : ∀ v, Decidable (chk v))
    (so : Fin 1 → ℕ) (hso : ∀ a, so a + S1.size a ≤ S4.size a)
    (o2 : Fin 3 → ℕ) (h2 : ∀ a, o2 a + S1x1x10000.size a ≤ S4x256x10000.size a)
    (h3 : ∀ v : Elt F .i32, chk v → ∀ a, (![v.toNat, 0] : Fin 2 → ℕ) a + S1x10000.size a ≤ S10000x10000.size a) :
    Prog (TpuEff nD τ sig (Elt F) Λ₀ .tc) Unit :=
  smemLoadElt (Memref.whole main_arg1) (Rect.unit (s := S4096) o1 S1.size h1) (View.loads_smem_one rfl numel1_S1)
    (Shape.Idx.first (numel1_S1.symm ▸ Nat.one_pos)) fun w => .op (.assume (chk w) (dec w)) fun hw =>
      .op (.enqueueDmaAs
        (((Memref.whole main_arg2).slice (Rect.unit (s := S10000x10000) (![w.toNat, 0] : Fin 2 → ℕ) S1x10000.size (h3 w hw.down)) (fun _ => rfl)).squeeze S10000 squeezes_S1x10000_S10000)
        (.here (((Memref.whole cc0_scratch1).slice (Rect.unit (s := S4x256x10000) o2 S1x1x10000.size h2) (fun _ => rfl)).squeeze S10000 squeezes_S1x1x10000_S10000))
        .same (.dma ((cc0_scratch3.slice (Rect.unit (s := S4) so S1.size hso)).squeeze S_ squeezes_S1_S_).sem)
        ((View.wordExact_bits rfl).reshape _ _) ((View.wordExact_bits rfl).reshape _ _) ⟨Or.inl rfl, trivial⟩) .ret

section Trip

variable (c : Dev nD) (T : S4096.Idx → BitVec 32) (P : S10000x10000.Idx → Elt F .f32)

theorem table_word (j : ℕ) (hj : j < 4096) (h1 : ∀ a, (![j] : Fin 1 → ℕ) a + S1.size a ≤ S4096.size a) (x : S1.Idx) :
    ((Memref.whole main_arg1 : Memref sig .tc .smem S4096 .i32).access (Rect.unit (s := S4096) ![j] S1.size h1)).read (Elt F) T x = T (ix1 ⟨j, hj⟩) := by
  refine congrArg T ?_
  funext a; fin_cases a
  have hx : (x 0).val < 1 := (x 0).isLt
  exact Fin.ext (show j + 1 * (x 0).val = j by omega)

theorem issueTrip_step (hT : ∀ y, (T y).toNat < 10000) (s : ℕ) (hs : s < 4) (n : ℕ) (hn : n < 16) (k : ℕ) (hk : k < 256)
    (o1 : Fin 1 → ℕ) (h1 : ∀ a, o1 a + S1.size a ≤ S4096.size a)
    (chk : Elt F .i32 → Prop) (dec : ∀ v, Decidable (chk v))
    (so : Fin 1 → ℕ) (hso : ∀ a, so a + S1.size a ≤ S4.size a)
    (o2 : Fin 3 → ℕ) (h2 : ∀ a, o2 a + S1x1x10000.size a ≤ S4x256x10000.size a)
    (h3 : ∀ v : Elt F .i32, chk v → ∀ a, (![v.toNat, 0] : Fin 2 → ℕ) a + S1x10000.size a ≤ S10000x10000.size a)
    (e1 : o1 = ![256 * n + k]) (es : so = ![s]) (e2 : o2 = ![s, k, 0]) (hchk : ∀ v : Elt F .i32, v.toNat < 10000 → chk v)
    (𝒱 : Variants) (defs : Defs nD τ sig (Elt F) Λ₀) :
    (issueInv c T P s hs n k : sProp 𝕄)
      ⊢ wp frame (wpE defs 𝒱 (c : Thread nD τ) none) Set.univ (issueTrip (F := F) o1 h1 chk dec so hso o2 h2 h3)
        (fun _ => issueInv c T P s hs n (k + 1)) := by
  subst e1; subst es; subst e2
  unfold issueInv issueTrip
  have hj : 256 * n + k < 4096 := by omega
  rw [Ring.bigSep_rangeSet_head (NB := 256) (show k < 256 from hk) hk]
  iintro ⟨HB, ⟨Hb, Hrest⟩, Hs, Ht⟩
  iapply (wp_smemLoadElt 𝒱 (c : Thread nD τ) none Set.univ (m := (Memref.whole main_arg1 : Memref sig .tc .smem S4096 .i32))
    (r := Rect.unit (s := S4096) ![256 * n + k] S1.size h1) (q := fullShare.right) (f := T) (S := Finset.univ) (Finset.subset_univ _)) $$ Ht
  iintro Ht
  rw [table_word T (256 * n + k) hj h1 _]
  iapply (wp_assume 𝒱 (c : Thread nD τ) none Set.univ (hchk _ (hT _)))
  have hr : rowOf T (256 * n + k) = (T (ix1 ⟨256 * n + k, hj⟩)).toNat := rowOf_eq T hT _ hj
  have hD : ∀ f, iprop(((rowDst s k hs hk).view.loc (c : Thread nD τ) ↦[rowSet s k]{fullShare}
        ((rowDst s k hs hk).view.write (Elt F) f (ReadAs.same.apply ((rowSrc _ (hT (ix1 ⟨256 * n + k, hj⟩))).view.read (Elt F) P)) Finset.univ))
      ∗ ((rowSrc _ (hT (ix1 ⟨256 * n + k, hj⟩))).view.loc (c : Thread nD τ) ↦[(rowSrc _ (hT (ix1 ⟨256 * n + k, hj⟩))).view.set]{rowQ s k} P))
      ⊢ (deliver c T P s n ⟨k, hk⟩ : sProp 𝕄) := fun f => by
    unfold deliver
    refine sep_mono (Entails.of_eq (pointsTo_congr fun y hy => ?_)) (Entails.of_eq ?_)
    · have key : ∀ (j : ℕ) (hj : j < 10000), rowOf T (256 * n + k) = j →
          (rowDst s k hs hk).view.write (Elt F) f ((rowSrc j hj).view.read (Elt F) P) Finset.univ y = gathered T P n y := by
        intro j hj e; subst e; exact written T P n s k hs hk f y hy
      exact key _ _ hr
    · rw [set_rowSrc]; simp only [hr]; rfl
  unfold before
  icases Hb with ⟨⟨%f, Hd⟩, Hm⟩
  ihave Hm' := (pointsTo_split_subset (Finset.subset_univ (srcSet (rowOf T (256 * n + k))))).1 $$ Hm
  icases Hm' with ⟨Hm, Hm'⟩
  iapply (Transfers.wp_dmaBatch (countersEmb (U := UU)) 𝒱 (c : Thread nD τ) none (src := rowSrc _ (hT (ix1 ⟨256 * n + k, hj⟩))) (dst := rowDst s k hs hk)
    (sm := .dma (cell s hs)) (via := .same) (Sd := rowSet s k) (fd := f) (fs := P) (q := rowQ s k) () rowAmt (rowDst_amt s k hs hk)
    (le_of_eq (set_rowDst s k hs hk)) hk (Nat.zero_le _) (hD f)) $$ [Hm Hd HB]
  · isplitl [Hm]
    · rw [set_rowSrc]; rw [hr]; iexact Hm
    isplitl [Hd]
    · iexact Hd
    · iexact HB
  iintro HB
  rw [wp_ret, Ring.bigSep_rangeSet_last (NB := 256) (lo := 0) (hi := k + 1) (Nat.succ_pos k) hk]
  imodintro
  isplitl [HB]; · iexact HB
  isplitl [Hrest]; · iexact Hrest
  isplitl [Hm' Hs]
  · isplitl [Hm']
    · iapply (show mat c P (Finset.univ \ srcSet (rowOf T (256 * n + k))) (rowQ s k) ⊢ (beside c T P s n ⟨k + 1 - 1, Nat.lt_of_le_of_lt (Nat.sub_le_of_le_add (Nat.le_refl _)) hk⟩ : sProp 𝕄)
        from Entails.of_eq rfl)
      iexact Hm'
    · iexact Hs
  iexact Ht

/-- A loop that starts step `n`'s copies into a slot at rest leaves them all in flight. -/
theorem issueLoop (s : ℕ) (hs : s < 4) (n : ℕ) {w : ℕ} (L : Scf.Loop w) (hok : L.OK) (htr : L.trips = 256)
    (body : Fin L.trips → Unit → Prog (TpuEff nD τ sig (Elt F) Λ₀ .tc) Unit)
    (𝒱 : Variants) (defs : Defs nD τ sig (Elt F) Λ₀)
    (hstep : ∀ (k : Fin L.trips) (acc : Unit), (issueInv c T P s hs n k.val : sProp 𝕄)
      ⊢ wp frame (wpE defs 𝒱 (c : Thread nD τ) none) Set.univ (body k acc) (fun _ => issueInv c T P s hs n (k.val + 1)))
    (Q : Unit → sProp 𝕄) :
    iprop(Idle c P s hs ∗ table c T)
      ⊢ iprop((iprop(Flying c T P s hs n ∗ table c T) -∗ Q ⟨⟩)
        -∗ wp frame (wpE defs 𝒱 (c : Thread nD τ) none) Set.univ (Scf.Loop.for L hok ⟨⟩ body) Q) := by
  unfold Idle
  iintro ⟨⟨Hc, ⟨%f, Hb⟩, Hm⟩, Ht⟩ Hk
  ihave Hm' := (Transfers.pointsTo_toks (slotQ s) 256).1 $$ Hm
  icases Hm' with ⟨Hm, Htoks⟩
  ihave Hb' := (Entails.of_eq (Ring.pointsTo_sub_blocks (ℓ := (c : Thread nD τ).loc cc0_scratch1) (q := fullShare)
    (fun b : Fin 256 => rowSet s b.val) (rowSet_disjoint s) (slotSet s) (rowSet_cover s) f)) $$ Hb
  imod (Transfers.batch_alloc' (Lvl := ℕ) (countersEmb (U := UU)) (c : Thread nD τ) () rowAmt (deliver c T P s n)
    (sm := .dma (cell s hs)) (E := Set.univ)) $$ Hc with HB
  ihave Hbef := (show iprop(bigSep Finset.univ (fun b : Fin 256 => ring c (rowSet s b.val) f)
      ∗ bigSep Finset.univ (fun b : Fin 256 => mat c P Finset.univ (rowQ s b.val)))
      ⊢ (bigSep (Ring.rangeSet 256 0 256) (before c P s) : sProp 𝕄) from by
    rw [Ring.rangeSet_univ]
    refine (Entails.of_eq (BI.bigSep_sep _ _ _).symm).trans (BI.bigSep_mono fun b _ => ?_)
    unfold before
    exact sep_mono (exists_intro (Φ := fun f => ring c (rowSet s b.val) f) f) .rfl) $$ [Hb' Htoks]
  · isplitl [Hb']
    · iexact Hb'
    · iexact Htoks
  iapply (Scf.wp_for frame (wpE defs 𝒱 (c : Thread nD τ) none) Set.univ L.lb L.ub L.st hok ⟨⟩ body
    (fun k _ => issueInv c T P s hs n k) hstep)
  isplitl [HB Hbef Ht]
  · unfold issueInv
    isplitl [HB]; · iexact HB
    isplitl [Hbef]; · iexact Hbef
    isplitr
    · rw [Ring.bigSep_rangeSet_empty (le_refl 0)]; iempintro
    · iexact Ht
  iintro %acc HI
  iapply Hk
  ihave HI' := (show (issueInv c T P s hs n L.trips : sProp 𝕄)
      ⊢ iprop(copies c T P s hs n 256 0 ∗ bigSep Finset.univ (beside c T P s n) ∗ table c T) from by
    rw [htr]; unfold issueInv
    rw [Ring.rangeSet_univ, Ring.bigSep_rangeSet_empty (le_refl 256)]
    iintro ⟨HB, -, Hs, Ht⟩
    isplitl [HB]; · iexact HB
    isplitl [Hs]; · iexact Hs
    iexact Ht) $$ HI
  icases HI' with ⟨HB, Hs, Ht⟩
  isplitr [Ht]
  · unfold Flying
    isplitl [HB]; · iexact HB
    isplitl [Hm]; · iexact Hm
    iexact Hs
  · iexact Ht

end Trip

end Cert.KernelIdeal.Gather
end
-- ==== Proof.Wait.lean ====
/- Waiting for a step's copies: the loop that awaits a slot's rows one by one, and what it leaves. -/
module

public import proofs.«01_k».proof.Proof.Issue

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-- A trip of the waiting loop, over the offsets its printed text computes. -/
def waitTrip (so : Fin 1 → ℕ) (hso : ∀ a, so a + S1.size a ≤ S4.size a)
    (o2 : Fin 3 → ℕ) (h2 : ∀ a, o2 a + S1x1x10000.size a ≤ S4x256x10000.size a) : Prog (TpuEff nD τ sig (Elt F) Λ₀ .tc) Unit :=
  .op (.waitDma2 ((cc0_scratch3.slice (Rect.unit (s := S4) so S1.size hso)).squeeze S_ squeezes_S1_S_).sem
    (((Memref.whole main_arg2).slice (Rect.unit (s := S10000x10000) ![0, 0] S1x10000.size inb_S10000x10000_S1x10000_0_0) (fun _ => rfl)).squeeze S10000 squeezes_S1x10000_S10000)
    (((Memref.whole cc0_scratch1).slice (Rect.unit (s := S4x256x10000) o2 S1x1x10000.size h2) (fun _ => rfl)).squeeze S10000 squeezes_S1x1x10000_S10000)
    ((View.wordExact_bits rfl).reshape _ _) ((View.wordExact_bits rfl).reshape _ _)) .ret

section Wait

variable (c : Dev nD) (T : S4096.Idx → BitVec 32) (P : S10000x10000.Idx → Elt F .f32)

/-- Before trip `k` of the waiting loop. -/
def waitInv (s : ℕ) (hs : s < 4) (n k : ℕ) : sProp 𝕄 :=
  iprop(copies c T P s hs n 256 (k * rowAmt) ∗ ∃ W, owes (c : Thread nD τ) 0 W)

theorem waitTrip_step (s : ℕ) (hs : s < 4) (n k : ℕ) (hk : k < 256) (so : Fin 1 → ℕ) (hso : ∀ a, so a + S1.size a ≤ S4.size a)
    (o2 : Fin 3 → ℕ) (h2 : ∀ a, o2 a + S1x1x10000.size a ≤ S4x256x10000.size a) (es : so = ![s])
    (𝒱 : Variants) (defs : Defs nD τ sig (Elt F) Λ₀) :
    (waitInv c T P s hs n k : sProp 𝕄)
      ⊢ wp frame (wpE defs 𝒱 (c : Thread nD τ) none) Set.univ (waitTrip (F := F) so hso o2 h2) (fun _ => waitInv c T P s hs n (k + 1)) := by
  subst es
  unfold waitInv waitTrip
  iintro ⟨HB, ⟨%W, HO⟩⟩
  iapply (Transfers.wp_waitBatchMul (countersEmb (U := UU)) 𝒱 (c : Thread nD τ) none (sem := cell s hs) () (N := rowAmt) 1
    (by rw [Nat.one_mul]; rfl) (D := deliver c T P s n) (j := 256) (u := k * rowAmt)
    (by rw [← Nat.add_mul, Nat.mul_comm]; exact Nat.mul_le_mul_left _ (by omega)) (W := W)) $$ [HB HO]
  · isplitl [HB]
    · iexact HB
    · iexact HO
  iintro ⟨HB, HO⟩
  rw [wp_ret, Nat.add_mul]
  imodintro
  isplitl [HB]; · iexact HB
  iexists _; iexact HO

/-- What the copies deliver: the slot at the step's rows, and the slot's share of the matrix whole again. -/
theorem deliveries (s n : ℕ) :
    iprop(bigSep Finset.univ (deliver c T P s n) ∗ mat c P Finset.univ (Transfers.shareDrop (slotQ s) 256) ∗ bigSep Finset.univ (beside c T P s n))
      ⊢ (iprop(ring c (slotSet s) (gathered T P n) ∗ mat c P Finset.univ (slotQ s)) : sProp 𝕄) := by
  iintro ⟨HD, Hm, Hs⟩
  ihave HD' := (show bigSep Finset.univ (deliver c T P s n)
      ⊢ (iprop(bigSep Finset.univ (fun r : Fin 256 => ring c (rowSet s r.val) (gathered T P n))
        ∗ bigSep Finset.univ (fun r : Fin 256 => mat c P (srcSet (rowOf T (256 * n + r.val))) (rowQ s r.val))) : sProp 𝕄)
      from Entails.of_eq (BI.bigSep_sep _ _ _)) $$ HD
  icases HD' with ⟨Hr, Ht⟩
  isplitl [Hr]
  · iapply (Entails.of_eq (Ring.pointsTo_sub_blocks (ℓ := (c : Thread nD τ).loc cc0_scratch1) (q := fullShare)
      (fun b : Fin 256 => rowSet s b.val) (rowSet_disjoint s) (slotSet s) (rowSet_cover s) (gathered T P n)).symm)
    iexact Hr
  · iapply (Transfers.pointsTo_toks (slotQ s) 256).2
    isplitl [Hm]; · iexact Hm
    iapply (show iprop(bigSep Finset.univ (fun r : Fin 256 => mat c P (srcSet (rowOf T (256 * n + r.val))) (rowQ s r.val))
        ∗ bigSep Finset.univ (beside c T P s n)) ⊢ (bigSep Finset.univ (fun r : Fin 256 => mat c P Finset.univ (rowQ s r.val)) : sProp 𝕄) from
      (Entails.of_eq (BI.bigSep_sep _ _ _).symm).trans (BI.bigSep_mono fun r _ => by
        unfold beside
        exact (pointsTo_split_subset (Finset.subset_univ _)).2))
    isplitl [Ht]; · iexact Ht
    iexact Hs

/-- The waiting loop takes a slot in flight to its step's rows. -/
theorem waitLoop (s : ℕ) (hs : s < 4) (n : ℕ) {w : ℕ} (L : Scf.Loop w) (hok : L.OK) (htr : L.trips = 256)
    (body : Fin L.trips → Unit → Prog (TpuEff nD τ sig (Elt F) Λ₀ .tc) Unit)
    (𝒱 : Variants) (defs : Defs nD τ sig (Elt F) Λ₀)
    (hstep : ∀ (k : Fin L.trips) (acc : Unit), (waitInv c T P s hs n k.val : sProp 𝕄)
      ⊢ wp frame (wpE defs 𝒱 (c : Thread nD τ) none) Set.univ (body k acc) (fun _ => waitInv c T P s hs n (k.val + 1)))
    (Q : Unit → sProp 𝕄) :
    iprop(Flying c T P s hs n ∗ ∃ W, owes (c : Thread nD τ) 0 W)
      ⊢ iprop((iprop(semVal ((c : Thread nD τ), SemLoc.dma (cell s hs)) 0 ∗ ring c (slotSet s) (gathered T P n) ∗ mat c P Finset.univ (slotQ s)
          ∗ ∃ W, owes (c : Thread nD τ) 0 W) -∗ |={Set.univ}=> Q ⟨⟩)
        -∗ wp frame (wpE defs 𝒱 (c : Thread nD τ) none) Set.univ (Scf.Loop.for L hok ⟨⟩ body) Q) := by
  unfold Flying
  iintro ⟨⟨HB, Hm, Hs⟩, HO⟩ Hk
  iapply (wp_fupd frame (wpE defs 𝒱 (c : Thread nD τ) none) Set.univ)
  iapply (Scf.wp_for frame (wpE defs 𝒱 (c : Thread nD τ) none) Set.univ L.lb L.ub L.st hok ⟨⟩ body
    (fun k _ => waitInv c T P s hs n k) hstep)
  isplitl [HB HO]
  · unfold waitInv
    isplitl [HB]
    · rw [Nat.zero_mul]; iexact HB
    · iexact HO
  iintro %acc HI
  ihave HI' := (show (waitInv c T P s hs n L.trips : sProp 𝕄)
      ⊢ iprop(copies c T P s hs n 256 (rowAmt * 256) ∗ ∃ W, owes (c : Thread nD τ) 0 W) from by
    rw [htr, Nat.mul_comm]; unfold waitInv; exact .rfl) $$ HI
  icases HI' with ⟨HB, HO⟩
  imod (Transfers.batch_collect' (countersEmb (U := UU)) (c : Thread nD τ) rowAmt_pos) $$ HB with ⟨HD, Hc⟩
  ihave Hd := (deliveries c T P s n) $$ [HD Hm Hs]
  · isplitl [HD]; · iexact HD
    isplitl [Hm]; · iexact Hm
    iexact Hs
  icases Hd with ⟨Hr, Hm⟩
  iapply Hk
  isplitl [Hc]; · iexact Hc
  isplitl [Hr]; · iexact Hr
  isplitl [Hm]; · iexact Hm
  iexact HO

end Wait

end Cert.KernelIdeal.Gather
end
-- ==== Proof.Slots.lean ====
/- The four slots between grid points: which are in flight and which are at rest, and the kernel's guards and trip counts. -/
module

public import proofs.«01_k».proof.Proof.Wait

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

section Slots

variable (c : Dev nD) (T : S4096.Idx → BitVec 32) (P : S10000x10000.Idx → Elt F .f32)

/-- Slot `s` before grid point `n`: in flight with the step of its number among `n`, `n + 1`, `n + 2`, or at rest. -/
def SlotAt (n s : ℕ) (hs : s < 4) : sProp 𝕄 :=
  if 0 < n ∧ (s + 3 * n) % 4 ≠ 3 ∧ n + (s + 3 * n) % 4 < 16 then Flying c T P s hs (n + (s + 3 * n) % 4) else Idle c P s hs

theorem slotAt_idle (n s : ℕ) (hs : s < 4) (h : ¬(0 < n ∧ (s + 3 * n) % 4 ≠ 3 ∧ n + (s + 3 * n) % 4 < 16)) :
    (SlotAt c T P n s hs : sProp 𝕄) = Idle c P s hs := if_neg h

theorem slotAt_flying (n s : ℕ) (hs : s < 4) (j : ℕ) (h : 0 < n ∧ (s + 3 * n) % 4 ≠ 3 ∧ n + (s + 3 * n) % 4 < 16)
    (hj : n + (s + 3 * n) % 4 = j) : (SlotAt c T P n s hs : sProp 𝕄) = Flying c T P s hs j := by
  subst hj; exact if_pos h

/-- All four slots before grid point `n`. -/
def slots (n : ℕ) : sProp 𝕄 := bigSep Finset.univ fun s : Fin 4 => SlotAt c T P n s.val s.isLt

/-- The slots other than two. -/
def others (n a b : ℕ) : sProp 𝕄 :=
  bigSep (Finset.univ.filter fun s : Fin 4 => s.val ≠ a ∧ s.val ≠ b) fun s => SlotAt c T P n s.val s.isLt

theorem slots_two (n a b : ℕ) (ha : a < 4) (hb : b < 4) (hne : a ≠ b) :
    (slots c T P n : sProp 𝕄) = iprop(SlotAt c T P n a ha ∗ SlotAt c T P n b hb ∗ others c T P n a b) := by
  unfold slots others
  refine (congrArg (fun S => bigSep S fun s : Fin 4 => (SlotAt c T P n s.val s.isLt : sProp 𝕄)) (show (Finset.univ : Finset (Fin 4)) = insert ⟨a, ha⟩ (insert ⟨b, hb⟩ (Finset.univ.filter fun s : Fin 4 => s.val ≠ a ∧ s.val ≠ b)) from by
    ext x; simp only [Finset.mem_univ, Finset.mem_insert, Finset.mem_filter, true_and, true_iff, Fin.ext_iff]; omega)).trans ?_
  rw [bigSep_insert (by simp only [Finset.mem_insert, Finset.mem_filter, Fin.ext_iff, Finset.mem_univ, true_and]; omega),
    bigSep_insert (by simp only [Finset.mem_filter, Finset.mem_univ, true_and]; omega)]
  rfl

/-- The two slots no loop of point `n` touches are as they were. -/
theorem others_step (n : ℕ) (hn : 0 < n) :
    (others c T P n ((n + 3) % 4) (n % 4) : sProp 𝕄) = others c T P (n + 1) ((n + 3) % 4) (n % 4) := by
  unfold others
  refine BI.bigSep_congr fun s hs => ?_
  rw [Finset.mem_filter] at hs
  obtain ⟨-, h1, h2⟩ := hs
  have h3 := s.isLt
  by_cases h : n + (s.val + 3 * n) % 4 < 16
  · rw [slotAt_flying c T P n s.val s.isLt (n + (s.val + 3 * n) % 4) (by omega) rfl,
      slotAt_flying c T P (n + 1) s.val s.isLt (n + (s.val + 3 * n) % 4) (by omega) (by omega)]
  · rw [slotAt_idle c T P n s.val s.isLt (by omega), slotAt_idle c T P (n + 1) s.val s.isLt (by omega)]

/-- The four slots one by one. -/
theorem slots_four (n : ℕ) :
    (slots c T P n : sProp 𝕄) = iprop(SlotAt c T P n 0 (by omega) ∗ SlotAt c T P n 1 (by omega) ∗ SlotAt c T P n 2 (by omega) ∗ SlotAt c T P n 3 (by omega)) :=
  bigSep_univ_eq_bigSepL [(0 : Fin 4), (1 : Fin 4), (2 : Fin 4), (3 : Fin 4)] (by decide) (by decide) _

end Slots

/-! ## Guards and trip counts -/

theorem coord_val (t : Fin grid0.N) : ((grid0.coords t) 0).val = t.val := by
  rcases fin_N0 t with h | h | h | h | h | h | h | h | h | h | h | h | h | h | h | h <;> subst h <;> decide

theorem cond1_iff (i : grid0.Coords) : k0_cond1 i = 1#1 ↔ (i 0).val = 0 := by
  have h : (i 0).val < 16 := (i 0).isLt
  unfold k0_cond1
  generalize (i 0).val = n at *
  revert n; decide

theorem cond2_iff (i : grid0.Coords) : k0_cond2 i = 1#1 ↔ 0 < (i 0).val ∧ (i 0).val + 3 < 16 := by
  have h : (i 0).val < 16 := (i 0).isLt
  unfold k0_cond2
  generalize (i 0).val = n at *
  revert n; decide

theorem trips1 : k0_t1_loop.trips = 256 := by decide
theorem trips2 : k0_t2_loop.trips = 256 := by decide
theorem trips3 : k0_t3_loop.trips = 256 := by decide
theorem trips4 : k0_t4_loop.trips = 256 := by decide
theorem trips5 : k0_t5_loop.trips = 256 := by decide
theorem trips6 : k0_t6_loop.trips = 256 := by decide

end Cert.KernelIdeal.Gather
end
-- ==== Proof.Whole.lean ====
/- Loads, stores and a copy of memrefs owned whole, at the head of a program. -/
module

public import proofs.«01_k».proof.Proof.Ring
public import Idealize.ShloMosaic.Lib.VecWindow

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (c : Dev nD) (𝒱 : Variants) (defs : Defs nD τ sig (Elt F) Λ₀)

/-- A load of everything yields what is owned. -/
theorem wp_load_owned {cs : CoreSpace} {s : Shape} {e : EltTy} (M : Memref sig .tc cs s e) (off : Fin s.rank → ℕ)
    (inb : ∀ a, off a + s.size a ≤ s.size a) (hl : M.view.LoadsAt (Rect.unit off s.size inb).toLoadRect)
    (X : s.Idx → Elt F e) (k : (s.Idx → Elt F e) → Prog (TpuEff nD τ sig (Elt F) Λ₀ .tc) Unit) {Q : Unit → sProp 𝕄} :
    (owns (c : Thread nD τ) M fullShare X : sProp 𝕄)
      ⊢ iprop((owns (c : Thread nD τ) M fullShare X -∗ wp frame (wpE defs 𝒱 (c : Thread nD τ) none) Set.univ (k X) Q)
        -∗ wp frame (wpE defs 𝒱 (c : Thread nD τ) none) Set.univ (.op (.load M (Rect.unit off s.size inb).toLoadRect hl) k) Q) := by
  unfold owns
  iintro ⟨%f, %hf, H⟩ Hk
  have e : (M.access (Rect.unit off s.size inb)).read (Elt F) f = X := by
    subst hf
    funext x
    exact congrArg (M.view.read (Elt F) f) (Rect.emb_unit_full inb x)
  have hS : (M.access (Rect.unit off s.size inb)).set ⊆ M.view.set := View.set_slice_subset M.view _
  iapply (wp_load_rect 𝒱 (c : Thread nD τ) none Set.univ (m := M) (r := Rect.unit off s.size inb) (S := M.view.set) (f := f) (q := fullShare) hS) $$ H
  iintro H
  rw [e]
  iapply Hk
  iexists f
  isplitr; · ipureintro; exact hf
  iexact H

/-- A store of everything leaves the payload. -/
theorem wp_store_owned {cs : CoreSpace} {s : Shape} {e : EltTy} (M : Memref sig .tc cs s e) (off : Fin s.rank → ℕ)
    (inb : ∀ a, off a + s.size a ≤ s.size a) (X w : s.Idx → Elt F e) (hx hm)
    (k : PUnit → Prog (TpuEff nD τ sig (Elt F) Λ₀ .tc) Unit) {Q : Unit → sProp 𝕄} :
    (owns (c : Thread nD τ) M fullShare X : sProp 𝕄)
      ⊢ iprop((owns (c : Thread nD τ) M fullShare w -∗ wp frame (wpE defs 𝒱 (c : Thread nD τ) none) Set.univ (k ⟨⟩) Q)
        -∗ wp frame (wpE defs 𝒱 (c : Thread nD τ) none) Set.univ (.op (.store M (Rect.unit off s.size inb) w Finset.univ hx hm) k) Q) := by
  unfold owns
  iintro ⟨%f, %hf, H⟩ Hk
  have e : M.view.read (Elt F) ((M.access (Rect.unit off s.size inb)).write (Elt F) f w Finset.univ) = w := by
    funext x
    exact (congrArg (M.view.read (Elt F) ((M.view.slice (Rect.unit off s.size inb)).write (Elt F) f w Finset.univ)) (Rect.emb_unit_full inb x)).symm.trans
      (View.read_slice_write_emb (Rect.unit off s.size inb) f w (x := x) (Finset.mem_univ _))
  have hS : (M.access (Rect.unit off s.size inb)).setOn Finset.univ ⊆ M.view.set := View.set_slice_subset M.view _
  iapply (wp_store 𝒱 (c : Thread nD τ) none Set.univ (m := M) (r := Rect.unit off s.size inb) (S := M.view.set) (f := f) hS) $$ H
  iintro H
  iapply Hk
  iexists _
  isplitr; · ipureintro; exact e
  iexact H

/-- A copy of one memref to another and the wait for it. -/
theorem wp_copy_owned {sp sp' : Space} {s : Shape} {e : EltTy} (A : Memref sig .tc sp s e) (B : Memref sig .tc sp' s e) (hs : 0 < s.numel)
    (sm : DmaSem sig) (hA hB hsem hA' hB') (x y : s.Idx → Elt F e) (k : PUnit → Prog (TpuEff nD τ sig (Elt F) Λ₀ .tc) Unit) {Q : Unit → sProp 𝕄} :
    iprop(owns (c : Thread nD τ) A fullShare x ∗ owns (c : Thread nD τ) B fullShare y
        ∗ semVal ((c : Thread nD τ), SemLoc.dma sm) 0 ∗ ∃ W, owes (c : Thread nD τ) 0 W)
      ⊢ iprop((iprop(owns (c : Thread nD τ) A fullShare x ∗ owns (c : Thread nD τ) B fullShare x
          ∗ semVal ((c : Thread nD τ), SemLoc.dma sm) 0 ∗ ∃ W, owes (c : Thread nD τ) 0 W)
            -∗ wp frame (wpE defs 𝒱 (c : Thread nD τ) none) Set.univ (k ⟨⟩) Q)
        -∗ wp (M := 𝕄) frame (wpE defs 𝒱 (c : Thread nD τ) none) Set.univ
          (.op (.enqueueDmaAs A (.here B) .same (.dma sm) hA hB hsem) fun _ => .op (.waitDma2 sm A B hA' hB') k) Q) := by
  have hpos : 0 < B.view.dmaCredit := View.dmaCredit_pos _ hs
  iintro ⟨HA, HB, Hc, ⟨%W, HO⟩⟩ Hk
  ihave HA' := (show (owns (c : Thread nD τ) A fullShare x : sProp 𝕄) ⊢ iprop(∃ f, ⌜A.view.read (Elt F) f = x⌝ ∗ (A.view.loc (c : Thread nD τ) ↦[A.view.set]{fullShare} f)) from by
    unfold owns; exact .rfl) $$ HA
  ihave HB' := (show (owns (c : Thread nD τ) B fullShare y : sProp 𝕄) ⊢ iprop(∃ f, ⌜B.view.read (Elt F) f = y⌝ ∗ (B.view.loc (c : Thread nD τ) ↦[B.view.set]{fullShare} f)) from by
    unfold owns; exact .rfl) $$ HB
  icases HA' with ⟨%f, %hf, HA⟩
  icases HB' with ⟨%g, -, HB⟩
  imod (Transfers.batch_alloc' (Lvl := ℕ) (countersEmb (U := UU)) (c : Thread nD τ) () B.view.dmaCredit
    (fun _ : Fin 1 => (iprop(owns (c : Thread nD τ) A fullShare x ∗ owns (c : Thread nD τ) B fullShare x) : sProp 𝕄))
    (sm := .dma sm) (E := Set.univ)) $$ Hc with HT
  iapply (Transfers.wp_dmaBatch (countersEmb (U := UU)) 𝒱 (c : Thread nD τ) none (src := A) (dst := B)
    (sm := .dma sm) (via := .same) (Sd := B.view.set) (fd := g) (fs := f) (q := fullShare)
    (D := fun _ : Fin 1 => (iprop(owns (c : Thread nD τ) A fullShare x ∗ owns (c : Thread nD τ) B fullShare x) : sProp 𝕄)) () B.view.dmaCredit rfl
    (Finset.Subset.refl _) (Nat.one_pos) (Nat.zero_le _) (by
      unfold owns
      iintro ⟨HB, HA⟩
      isplitl [HA]
      · iexists f; isplitr; · ipureintro; exact hf
        iexact HA
      · iexists _; isplitr
        swap; · iexact HB
        ipureintro
        rw [View.read_write_univ]; exact hf)) $$ [HA HB HT]
  · isplitl [HA]; · iexact HA
    isplitl [HB]; · iexact HB
    iexact HT
  iintro HT
  iapply (Transfers.wp_waitBatchMul (countersEmb (U := UU)) 𝒱 (c : Thread nD τ) none (sem := sm) () (N := B.view.dmaCredit) 1
    (by rw [Nat.one_mul]) (j := 1) (u := 0) (by omega) (W := W)) $$ [HT HO]
  · isplitl [HT]
    · iexact HT
    · iexact HO
  iintro ⟨HT, HO⟩
  rw [show 0 + 1 * B.view.dmaCredit = B.view.dmaCredit * 1 by omega]
  iapply (fupd_wp frame (wpE defs 𝒱 (c : Thread nD τ) none) Set.univ)
  imod (Transfers.batch_collect' (countersEmb (U := UU)) (c : Thread nD τ) hpos) $$ HT with ⟨HD, Hc⟩
  imodintro
  iapply Hk
  ihave HD' := (show bigSep Finset.univ (fun _ : Fin 1 => (iprop(owns (c : Thread nD τ) A fullShare x ∗ owns (c : Thread nD τ) B fullShare x) : sProp 𝕄))
      ⊢ iprop(owns (c : Thread nD τ) A fullShare x ∗ owns (c : Thread nD τ) B fullShare x) from
    Entails.of_eq (by rw [show (Finset.univ : Finset (Fin 1)) = {0} from rfl, bigSep_singleton])) $$ HD
  icases HD' with ⟨HA, HB⟩
  isplitl [HA]; · iexact HA
  isplitl [HB]; · iexact HB
  isplitl [Hc]; · iexact Hc
  iexists _; iexact HO

end Cert.KernelIdeal.Gather
end
-- ==== Proof.Parts.lean ====
/- The kernel's body at a grid point as three parts: the first point's start-up, the later points' prefetch, and the
   wait with the product. -/
module

public import proofs.«01_k».proof.Proof.Slots
public import proofs.«01_k».proof.Proof.Whole

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

/-! ## The loops -/

section Loops

variable (i : grid0.Coords) (M4 : Memref sig .tc .vmem S128x128 .f32) (h4 : M4.IsWhole) (M5 : Memref sig .tc .vmem S1x128 .f32) (h5 : M5.IsWhole)
  (M6 : Memref sig .tc .vmem S256x128 .f32) (h6 : M6.IsWhole)

/-- The loop that starts step 0's copies. -/
abbrev loop1 (h : k0_cond1 i = 1#1) : Prog (TpuEff nD τ sig (Elt F) Λ₀ .tc) Unit :=
  Scf.Loop.for k0_t1_loop (k0_t1_ok i h) ⟨⟩ (k0_t1_body i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h)
theorem loop1_trip (h : k0_cond1 i = 1#1) (k : Fin k0_t1_loop.trips) (acc : Unit) :
    k0_t1_body (F := F) i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h k acc
      = issueTrip (k0_off1 k) (k0_off1_inb i k h) (k0_chk1 i) (k0_chk1.dec i) ![0] inb_S4_S1_0
        (k0_off2 k) (k0_off2_inb i k h) (fun v hw => k0_off3_inb i v hw h) := rfl
/-- The loop that starts step 1's copies. -/
abbrev loop2 (h : k0_cond1 i = 1#1) : Prog (TpuEff nD τ sig (Elt F) Λ₀ .tc) Unit :=
  Scf.Loop.for k0_t2_loop (k0_t2_ok i h) ⟨⟩ (k0_t2_body i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h)
theorem loop2_trip (h : k0_cond1 i = 1#1) (k : Fin k0_t2_loop.trips) (acc : Unit) :
    k0_t2_body (F := F) i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h k acc
      = issueTrip (k0_off4 k) (k0_off4_inb i k h) (k0_chk2 i) (k0_chk2.dec i) ![1] inb_S4_S1_1
        (k0_off5 k) (k0_off5_inb i k h) (fun v hw => k0_off6_inb i v hw h) := rfl
/-- The loop that starts step 2's copies. -/
abbrev loop3 (h : k0_cond1 i = 1#1) : Prog (TpuEff nD τ sig (Elt F) Λ₀ .tc) Unit :=
  Scf.Loop.for k0_t3_loop (k0_t3_ok i h) ⟨⟩ (k0_t3_body i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h)
theorem loop3_trip (h : k0_cond1 i = 1#1) (k : Fin k0_t3_loop.trips) (acc : Unit) :
    k0_t3_body (F := F) i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h k acc
      = issueTrip (k0_off7 k) (k0_off7_inb i k h) (k0_chk3 i) (k0_chk3.dec i) ![2] inb_S4_S1_2
        (k0_off8 k) (k0_off8_inb i k h) (fun v hw => k0_off9_inb i v hw h) := rfl
/-- The loop that starts step 3's copies. -/
abbrev loop4 (h : k0_cond1 i = 1#1) : Prog (TpuEff nD τ sig (Elt F) Λ₀ .tc) Unit :=
  Scf.Loop.for k0_t4_loop (k0_t4_ok i h) ⟨⟩ (k0_t4_body i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h)
theorem loop4_trip (h : k0_cond1 i = 1#1) (k : Fin k0_t4_loop.trips) (acc : Unit) :
    k0_t4_body (F := F) i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h k acc
      = issueTrip (k0_off10 k) (k0_off10_inb i k h) (k0_chk4 i) (k0_chk4.dec i) ![3] inb_S4_S1_3
        (k0_off11 k) (k0_off11_inb i k h) (fun v hw => k0_off12_inb i v hw h) := rfl
/-- The loop that starts the copies of the step three ahead. -/
abbrev loop5 (h : k0_cond2 i = 1#1) : Prog (TpuEff nD τ sig (Elt F) Λ₀ .tc) Unit :=
  Scf.Loop.for k0_t5_loop (k0_t5_ok i h) ⟨⟩ (k0_t5_body i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h)
theorem loop5_trip (h : k0_cond2 i = 1#1) (k : Fin k0_t5_loop.trips) (acc : Unit) :
    k0_t5_body (F := F) i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 h k acc
      = issueTrip (k0_off13 i k) (k0_off13_inb i k h) (k0_chk5 i) (k0_chk5.dec i) (k0_off14 i) (k0_off14_inb i h)
        (k0_off15 i k) (k0_off15_inb i k h) (fun v hw => k0_off16_inb i v hw h) := rfl
/-- The loop that waits for the current step's copies. -/
abbrev loop6 : Prog (TpuEff nD τ sig (Elt F) Λ₀ .tc) Unit :=
  Scf.Loop.for k0_t6_loop k0_t6_ok ⟨⟩ (k0_t6_body i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4)
theorem loop6_trip (k : Fin k0_t6_loop.trips) (acc : Unit) :
    k0_t6_body (F := F) i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4 k acc
      = waitTrip (k0_off17 i) (k0_off17_inb i) (k0_off18 i k) (k0_off18_inb i k) := rfl

/-! ## The parts -/

/-- The start-up's encoding: `X` copied in, and its product with the weights, the bias added, stored. -/
def encOps : Prog (TpuEff nD τ sig (Elt F) Λ₀ .tc) Unit :=
  .op (.enqueueDmaAs (Memref.whole main_arg0) (.here (Memref.whole cc0_scratch2)) .same (.dma cc0_scratch4.sem)
    (Memref.isWhole_whole _).wordExact (Memref.isWhole_whole _).wordExact ⟨Or.inl rfl, trivial⟩) fun _ =>
  .op (.waitDma2 cc0_scratch4.sem (Memref.whole main_arg0) (Memref.whole cc0_scratch2) (Memref.isWhole_whole _).wordExact (Memref.isWhole_whole _).wordExact) fun _ =>
  .op (.load (Memref.whole cc0_scratch2) (Rect.unit (s := S10000x128) ![0, 0] S10000x128.size inb_S10000x128_S10000x128_0_0).toLoadRect (View.loadsAt_vmem h_S10000x128)) fun v22 =>
  .op (.load M4 (Rect.unit (s := S128x128) ![0, 0] S128x128.size inb_S128x128_S128x128_0_0).toLoadRect (View.loadsAt_vmem h_S128x128)) fun v23 =>
  .op (.load M5 (Rect.unit (s := S1x128) ![0, 0] S1x128.size inb_S1x128_S1x128_0_0).toLoadRect (View.loadsAt_vmem h_S1x128)) fun v25 =>
  .op (.load (Memref.whole cc0_scratch0) (Rect.unit (s := S10000x128) ![0, 0] S10000x128.size inb_S10000x128_S10000x128_0_0).toLoadRect (View.loadsAt_vmem h_S10000x128)) fun _ =>
  .op (.store (Memref.whole cc0_scratch0) (Rect.unit (s := S10000x128) ![0, 0] S10000x128.size inb_S10000x128_S10000x128_0_0) (k0_pay1 v22 v23 v25) Finset.univ
    (View.stores_vmem h_S10000x128 ((Memref.isWhole_whole _).storeExact_slice rfl _ packedbf16_S10000x128_S10000x128_0_0) (fun _ => rfl)) (.inl rfl)) .ret

/-- The product of the slot's rows with the encoding, stored. -/
def outOps : Prog (TpuEff nD τ sig (Elt F) Λ₀ .tc) Unit :=
  .op (.load (Memref.whole cc0_scratch1) (Rect.unit (s := S4x256x10000) (k0_off19 i) S1x256x10000.size (k0_off19_inb i)).toLoadRect (View.loadsAt_vmem h_S1x256x10000)) fun v12 =>
  .op (.load (Memref.whole cc0_scratch0) (Rect.unit (s := S10000x128) ![0, 0] S10000x128.size inb_S10000x128_S10000x128_0_0).toLoadRect (View.loadsAt_vmem h_S10000x128)) fun v15 =>
  .op (.load M6 (Rect.unit (s := S256x128) ![0, 0] S256x128.size inb_S256x128_S256x128_0_0).toLoadRect (View.loadsAt_vmem h_S256x128)) fun _ =>
  .op (.store M6 (Rect.unit (s := S256x128) ![0, 0] S256x128.size inb_S256x128_S256x128_0_0) (k0_pay2 v12 v15) Finset.univ
    (View.stores_vmem_bits_univ h_S256x128 rfl) (.inl rfl)) .ret

/-- What the body does at the first point alone. -/
def partA : Prog (TpuEff nD τ sig (Elt F) Λ₀ .tc) Unit :=
  if h : k0_cond1 i = 1#1 then
    loop1 i M4 h4 M5 h5 M6 h6 h >>= fun _ => loop2 i M4 h4 M5 h5 M6 h6 h >>= fun _ => loop3 i M4 h4 M5 h5 M6 h6 h >>= fun _ =>
      loop4 i M4 h4 M5 h5 M6 h6 h >>= fun _ => encOps M4 M5
  else .ret ⟨⟩

/-- What it does at the points with a step three ahead. -/
def partB : Prog (TpuEff nD τ sig (Elt F) Λ₀ .tc) Unit :=
  if h : k0_cond2 i = 1#1 then loop5 i M4 h4 M5 h5 M6 h6 h >>= fun _ => .ret ⟨⟩ else .ret ⟨⟩

set_option maxRecDepth 65536 in
theorem body_parts :
    cc0__body (F := F) i (Memref.whole main_arg1) (Memref.isWhole_whole _) (Memref.whole main_arg2) (Memref.isWhole_whole _) (Memref.whole main_arg0) (Memref.isWhole_whole _) M4 h4 M5 h5 M6 h6 (Memref.whole cc0_scratch0) (Memref.isWhole_whole _) (Memref.whole cc0_scratch1) (Memref.isWhole_whole _) (Memref.whole cc0_scratch2) (Memref.isWhole_whole _) cc0_scratch3 cc0_scratch4
      = (partA i M4 h4 M5 h5 M6 h6 >>= fun _ => partB i M4 h4 M5 h5 M6 h6 >>= fun _ => loop6 i M4 h4 M5 h5 M6 h6 >>= fun _ => outOps i M6) := by
  rw [cc0__body_eq_skeleton]
  unfold cc0__body_skel partA partB
  by_cases h1 : k0_cond1 i = 1#1
  · by_cases h2 : k0_cond2 i = 1#1
    · simp only [dif_pos h1, dif_pos h2, bind_assoc]
      rfl
    · simp only [dif_pos h1, dif_neg h2, bind_assoc]
      rfl
  · by_cases h2 : k0_cond2 i = 1#1
    · simp only [dif_neg h1, dif_pos h2, bind_assoc]
      rfl
    · simp only [dif_neg h1, dif_neg h2, bind_assoc]
      rfl

end Loops

end Cert.KernelIdeal.Gather
end
-- ==== Proof.Steps.lean ====
/- The kernel's body at a grid point: what each part takes and leaves. -/
module

public import proofs.«01_k».proof.Proof.Parts

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (c : Dev nD) (T : S4096.Idx → BitVec 32) (P : S10000x10000.Idx → Elt F .f32)
variable (X : S10000x128.Idx → Elt F .f32) (W : S128x128.Idx → Elt F .f32) (B : S1x128.Idx → Elt F .f32)
variable (𝒱 : Variants) (defs : Defs nD τ sig (Elt F) Λ₀)

/-- A memref owned whole at contents `x`. -/
abbrev own {sp : Space} {s : Shape} {e : EltTy} (M : Memref sig .tc sp s e) (x : s.Idx → Elt F e) : sProp 𝕄 :=
  owns (c : Thread nD τ) M fullShare x
/-- The copy of `X`'s semaphore at zero. -/
abbrev xSem : sProp 𝕄 := semVal ((c : Thread nD τ), SemLoc.dma cc0_scratch4.sem) 0
/-- The core's recorded waits. -/
abbrev waits : sProp 𝕄 := iprop(∃ V, owes (c : Thread nD τ) 0 V)

/-- The encoding of `X` is in place. -/
theorem encOps_step (M4 : Memref sig .tc .vmem S128x128 .f32) (M5 : Memref sig .tc .vmem S1x128 .f32)
    (y : S10000x128.Idx → Elt F .f32) (z : S10000x128.Idx → Elt F .bf16) (Q : Unit → sProp 𝕄) :
    iprop(own c (Memref.whole main_arg0) X ∗ own c (Memref.whole cc0_scratch2) y ∗ xSem c ∗ own c M4 W ∗ own c M5 B
        ∗ own c (Memref.whole cc0_scratch0) z ∗ waits c)
      ⊢ iprop((iprop(own c (Memref.whole main_arg0) X ∗ own c (Memref.whole cc0_scratch2) X ∗ xSem c ∗ own c M4 W ∗ own c M5 B
          ∗ own c (Memref.whole cc0_scratch0) (k0_pay1 X W B) ∗ waits c) -∗ Q ⟨⟩)
        -∗ wp frame (wpE defs 𝒱 (c : Thread nD τ) none) Set.univ (encOps M4 M5) Q) := by
  unfold encOps
  iintro ⟨HX, Hx, Hc, H4, H5, Hz, HO⟩ Hk
  iapply (wp_copy_owned c 𝒱 defs (Memref.whole main_arg0) (Memref.whole cc0_scratch2) (by decide) cc0_scratch4.sem _ _ _ _ _ X y) $$ [HX Hx Hc HO]
  · isplitl [HX]; · iexact HX
    isplitl [Hx]; · iexact Hx
    isplitl [Hc]; · iexact Hc
    iexact HO
  iintro ⟨HX, Hx, Hc, HO⟩
  iapply (wp_load_owned c 𝒱 defs (Memref.whole cc0_scratch2) ![0, 0] inb_S10000x128_S10000x128_0_0 _ X) $$ Hx
  iintro Hx
  iapply (wp_load_owned c 𝒱 defs M4 ![0, 0] inb_S128x128_S128x128_0_0 _ W) $$ H4
  iintro H4
  iapply (wp_load_owned c 𝒱 defs M5 ![0, 0] inb_S1x128_S1x128_0_0 _ B) $$ H5
  iintro H5
  iapply (wp_load_owned c 𝒱 defs (Memref.whole cc0_scratch0) ![0, 0] inb_S10000x128_S10000x128_0_0 _ z) $$ Hz
  iintro Hz
  iapply (wp_store_owned c 𝒱 defs (Memref.whole cc0_scratch0) ![0, 0] inb_S10000x128_S10000x128_0_0 z (k0_pay1 X W B)) $$ Hz
  iintro Hz
  rw [wp_ret]
  imodintro
  iapply Hk
  isplitl [HX]; · iexact HX
  isplitl [Hx]; · iexact Hx
  isplitl [Hc]; · iexact Hc
  isplitl [H4]; · iexact H4
  isplitl [H5]; · iexact H5
  isplitl [Hz]; · iexact Hz
  iexact HO

/-- Step `n`'s rows as one slot's block. -/
def slab (n : ℕ) : S1x256x10000.Idx → Elt F .f32 :=
  fun y => P (ix2 (⟨rowOf T (256 * n + (y 1).val), rowOf_lt _ _⟩ : Fin 10000) (y 2 : Fin 10000))

theorem slot_sub (s : ℕ) (hs : s < 4) (o : Fin 3 → ℕ) (ho : o = ![s, 0, 0]) (inb : ∀ a, o a + S1x256x10000.size a ≤ S4x256x10000.size a) :
    ((Memref.whole cc0_scratch1 : Memref sig .tc .vmem S4x256x10000 .f32).access (Rect.unit (s := S4x256x10000) o S1x256x10000.size inb)).set ⊆ slotSet s := by
  subst ho
  intro y hy
  obtain ⟨x, -, rfl⟩ := Finset.mem_map.mp hy
  refine Finset.mem_filter.mpr ⟨Finset.mem_univ _, ?_⟩
  have hx : (x 0).val < 1 := (x 0).isLt
  show s + 1 * (x 0).val = s
  omega

theorem slot_read (n s : ℕ) (hs : s < 4) (o : Fin 3 → ℕ) (ho : o = ![s, 0, 0]) (inb : ∀ a, o a + S1x256x10000.size a ≤ S4x256x10000.size a) :
    ((Memref.whole cc0_scratch1 : Memref sig .tc .vmem S4x256x10000 .f32).access (Rect.unit (s := S4x256x10000) o S1x256x10000.size inb)).read (Elt F)
      (gathered T P n) = slab T P n := by
  subst ho
  funext x
  have e1 : 0 + 1 * (x 1).val = (x 1).val := by omega
  have e2 : 0 + 1 * (x 2).val = (x 2).val := by omega
  show P (ix2 (⟨rowOf T (256 * n + (0 + 1 * (x 1).val)), _⟩ : Fin 10000) (⟨0 + 1 * (x 2).val, _⟩ : Fin 10000)) = _
  unfold slab
  congr 1
  funext a; fin_cases a
  · exact Fin.ext (show rowOf T (256 * n + (0 + 1 * (x 1).val)) = rowOf T (256 * n + (x 1).val) by rw [e1])
  · exact Fin.ext e2

/-- The product is stored. -/
theorem outOps_step (i : grid0.Coords) (M6 : Memref sig .tc .vmem S256x128 .f32) (n s : ℕ) (hs : s < 4) (hi : (i 0).val % 4 = s)
    (z : S10000x128.Idx → Elt F .bf16) (y : S256x128.Idx → Elt F .f32) (Q : Unit → sProp 𝕄) :
    iprop(ring c (slotSet s) (gathered T P n) ∗ own c (Memref.whole cc0_scratch0) z ∗ own c M6 y)
      ⊢ iprop((iprop(ring c (slotSet s) (gathered T P n) ∗ own c (Memref.whole cc0_scratch0) z ∗ own c M6 (k0_pay2 (slab T P n) z)) -∗ |={Set.univ}=> Q ⟨⟩)
        -∗ wp frame (wpE defs 𝒱 (c : Thread nD τ) none) Set.univ (outOps i M6) Q) := by
  unfold outOps
  have ho : k0_off19 i = ![s, 0, 0] := by rw [k0_off19_eq, hi]
  iintro ⟨Hr, Hz, Hy⟩ Hk
  iapply (wp_load_rect 𝒱 (c : Thread nD τ) none Set.univ (m := (Memref.whole cc0_scratch1 : Memref sig .tc .vmem S4x256x10000 .f32))
    (r := Rect.unit (s := S4x256x10000) (k0_off19 i) S1x256x10000.size (k0_off19_inb i)) (S := slotSet s) (f := gathered T P n) (q := fullShare)
    (slot_sub s hs _ ho _)) $$ Hr
  iintro Hr
  rw [slot_read T P n s hs _ ho]
  iapply (wp_load_owned c 𝒱 defs (Memref.whole cc0_scratch0) ![0, 0] inb_S10000x128_S10000x128_0_0 _ z) $$ Hz
  iintro Hz
  iapply (wp_load_owned c 𝒱 defs M6 ![0, 0] inb_S256x128_S256x128_0_0 _ y) $$ Hy
  iintro Hy
  iapply (wp_store_owned c 𝒱 defs M6 ![0, 0] inb_S256x128_S256x128_0_0 y (k0_pay2 (slab T P n) z)) $$ Hy
  iintro Hy
  rw [wp_ret]
  iapply Hk
  isplitl [Hr]; · iexact Hr
  isplitl [Hz]; · iexact Hz
  iexact Hy

/-! ## The loops' trips -/

section Trips

variable (i : grid0.Coords) (M4 : Memref sig .tc .vmem S128x128 .f32) (h4 : M4.IsWhole) (M5 : Memref sig .tc .vmem S1x128 .f32) (h5 : M5.IsWhole)
  (M6 : Memref sig .tc .vmem S256x128 .f32) (h6 : M6.IsWhole) (hT : ∀ y, (T y).toNat < 10000)

/-- A row number below the matrix's height is a row of it. -/
theorem row_ok (v : BitVec 32) (hv : v.toNat < 10000) : ∀ a, (![v.toNat, 0] : Fin 2 → ℕ) a + S1x10000.size a ≤ S10000x10000.size a := fun a => by
  fin_cases a
  · show v.toNat + 1 ≤ 10000; omega
  · show 0 + 10000 ≤ 10000; omega

include hT in
theorem loop1_step (h : k0_cond1 i = 1#1) (Q : Unit → sProp 𝕄) :
    iprop(Idle c P 0 (by omega) ∗ table c T) ⊢ iprop((iprop(Flying c T P 0 (by omega) 0 ∗ table c T) -∗ Q ⟨⟩)
        -∗ wp frame (wpE defs 𝒱 (c : Thread nD τ) none) Set.univ (loop1 i M4 h4 M5 h5 M6 h6 h) Q) :=
  issueLoop c T P 0 (by omega) 0 k0_t1_loop (k0_t1_ok i h) trips1 _ 𝒱 defs (fun k acc => by
    rw [loop1_trip]
    exact issueTrip_step c T P hT 0 (by omega) 0 (by omega) k.val (trips1 ▸ k.isLt) _ _ _ _ _ _ _ _ _
      (by rw [k0_off1_eq]; congr 1; omega) rfl (k0_off2_eq k) (fun v hv _ => row_ok v hv) 𝒱 defs) Q

include hT in
theorem loop2_step (h : k0_cond1 i = 1#1) (Q : Unit → sProp 𝕄) :
    iprop(Idle c P 1 (by omega) ∗ table c T) ⊢ iprop((iprop(Flying c T P 1 (by omega) 1 ∗ table c T) -∗ Q ⟨⟩)
        -∗ wp frame (wpE defs 𝒱 (c : Thread nD τ) none) Set.univ (loop2 i M4 h4 M5 h5 M6 h6 h) Q) :=
  issueLoop c T P 1 (by omega) 1 k0_t2_loop (k0_t2_ok i h) trips2 _ 𝒱 defs (fun k acc => by
    rw [loop2_trip]
    exact issueTrip_step c T P hT 1 (by omega) 1 (by omega) k.val (trips2 ▸ k.isLt) _ _ _ _ _ _ _ _ _
      (by rw [k0_off4_eq]; congr 1; omega) rfl (k0_off5_eq k) (fun v hv _ => row_ok v hv) 𝒱 defs) Q

include hT in
theorem loop3_step (h : k0_cond1 i = 1#1) (Q : Unit → sProp 𝕄) :
    iprop(Idle c P 2 (by omega) ∗ table c T) ⊢ iprop((iprop(Flying c T P 2 (by omega) 2 ∗ table c T) -∗ Q ⟨⟩)
        -∗ wp frame (wpE defs 𝒱 (c : Thread nD τ) none) Set.univ (loop3 i M4 h4 M5 h5 M6 h6 h) Q) :=
  issueLoop c T P 2 (by omega) 2 k0_t3_loop (k0_t3_ok i h) trips3 _ 𝒱 defs (fun k acc => by
    rw [loop3_trip]
    exact issueTrip_step c T P hT 2 (by omega) 2 (by omega) k.val (trips3 ▸ k.isLt) _ _ _ _ _ _ _ _ _
      (by rw [k0_off7_eq]; congr 1; omega) rfl (k0_off8_eq k) (fun v hv _ => row_ok v hv) 𝒱 defs) Q

include hT in
theorem loop4_step (h : k0_cond1 i = 1#1) (Q : Unit → sProp 𝕄) :
    iprop(Idle c P 3 (by omega) ∗ table c T) ⊢ iprop((iprop(Flying c T P 3 (by omega) 3 ∗ table c T) -∗ Q ⟨⟩)
        -∗ wp frame (wpE defs 𝒱 (c : Thread nD τ) none) Set.univ (loop4 i M4 h4 M5 h5 M6 h6 h) Q) :=
  issueLoop c T P 3 (by omega) 3 k0_t4_loop (k0_t4_ok i h) trips4 _ 𝒱 defs (fun k acc => by
    rw [loop4_trip]
    exact issueTrip_step c T P hT 3 (by omega) 3 (by omega) k.val (trips4 ▸ k.isLt) _ _ _ _ _ _ _ _ _
      (by rw [k0_off10_eq]; congr 1; omega) rfl (k0_off11_eq k) (fun v hv _ => row_ok v hv) 𝒱 defs) Q

include hT in
theorem loop5_step (h : k0_cond2 i = 1#1) (s n : ℕ) (hs : s < 4) (hn : n < 16) (es : ((i 0).val + 3) % 4 = s) (en : (i 0).val + 3 = n)
    (Q : Unit → sProp 𝕄) :
    iprop(Idle c P s hs ∗ table c T) ⊢ iprop((iprop(Flying c T P s hs n ∗ table c T) -∗ Q ⟨⟩)
        -∗ wp frame (wpE defs 𝒱 (c : Thread nD τ) none) Set.univ (loop5 i M4 h4 M5 h5 M6 h6 h) Q) :=
  issueLoop c T P s hs n k0_t5_loop (k0_t5_ok i h) trips5 _ 𝒱 defs (fun k acc => by
    rw [loop5_trip]
    exact issueTrip_step c T P hT s hs n hn k.val (trips5 ▸ k.isLt) _ _ _ _ _ _ _ _ _
      (by rw [k0_off13_eq]; congr 1; omega) (by rw [k0_off14_eq, es]) (by rw [k0_off15_eq, es]) (fun v hv _ => row_ok v hv) 𝒱 defs) Q

theorem loop6_step (s n : ℕ) (hs : s < 4) (es : (i 0).val % 4 = s) (Q : Unit → sProp 𝕄) :
    iprop(Flying c T P s hs n ∗ waits c) ⊢ iprop((iprop(semVal ((c : Thread nD τ), SemLoc.dma (cell s hs)) 0 ∗ ring c (slotSet s) (gathered T P n)
          ∗ mat c P Finset.univ (slotQ s) ∗ waits c) -∗ |={Set.univ}=> Q ⟨⟩)
        -∗ wp frame (wpE defs 𝒱 (c : Thread nD τ) none) Set.univ (loop6 i M4 h4 M5 h5 M6 h6) Q) :=
  waitLoop c T P s hs n k0_t6_loop k0_t6_ok trips6 _ 𝒱 defs (fun k acc => by
    rw [loop6_trip]
    exact waitTrip_step c T P s hs n k.val (trips6 ▸ k.isLt) _ _ _ _ (by rw [k0_off17_eq, es]) 𝒱 defs) Q

end Trips

end Cert.KernelIdeal.Gather
end
-- ==== Proof.Body.lean ====
/- The kernel's body at one grid point, from the state before it to the state after it. -/
module

public import proofs.«01_k».proof.Proof.Steps

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (c : Dev nD) (T : S4096.Idx → BitVec 32) (P : S10000x10000.Idx → Elt F .f32)
variable (X : S10000x128.Idx → Elt F .f32) (W : S128x128.Idx → Elt F .f32) (B : S1x128.Idx → Elt F .f32)
variable (𝒱 : Variants) (defs : Defs nD τ sig (Elt F) Λ₀)

/-- The encoding's buffer before grid point `n`: filled after the first. -/
def encAt (n : ℕ) : sProp 𝕄 := iprop(∃ y, ⌜0 < n → y = k0_pay1 X W B⌝ ∗ own c (Memref.whole cc0_scratch0) y)

/-- Everything the body keeps between grid points, before point `n`. -/
def state (n : ℕ) : sProp 𝕄 :=
  iprop(slots c T P n ∗ table c T ∗ own c (Memref.whole main_arg0) X ∗ (∃ y, own c (Memref.whole cc0_scratch2) y) ∗ xSem c ∗ encAt c X W B n)

section Point

variable (i : grid0.Coords) (M4 : Memref sig .tc .vmem S128x128 .f32) (h4 : M4.IsWhole) (M5 : Memref sig .tc .vmem S1x128 .f32) (h5 : M5.IsWhole)
  (M6 : Memref sig .tc .vmem S256x128 .f32) (h6 : M6.IsWhole) (hT : ∀ y, (T y).toNat < 10000)

/-- The step to await is in flight, and its slot's rest is all that is missing of the next point's slots. -/
def ready (n : ℕ) : sProp 𝕄 :=
  iprop(Flying c T P (n % 4) (Nat.mod_lt _ (by omega)) n ∗ (Idle c P (n % 4) (Nat.mod_lt _ (by omega)) -∗ slots c T P (n + 1)))

include hT in
/-- The first point starts the first four steps and encodes `X`. -/
theorem start_step (hi : (i 0).val = 0) (Q : Unit → sProp 𝕄) :
    iprop(state c T P X W B 0 ∗ own c M4 W ∗ own c M5 B ∗ waits c)
      ⊢ iprop((iprop(ready c T P 0 ∗ table c T ∗ own c (Memref.whole main_arg0) X ∗ (∃ y, own c (Memref.whole cc0_scratch2) y) ∗ xSem c
            ∗ own c (Memref.whole cc0_scratch0) (k0_pay1 X W B) ∗ own c M4 W ∗ own c M5 B ∗ waits c) -∗ Q ⟨⟩)
        -∗ wp frame (wpE defs 𝒱 (c : Thread nD τ) none) Set.univ (partA i M4 h4 M5 h5 M6 h6) Q) := by
  have h := (cond1_iff i).mpr hi
  unfold partA state ready
  rw [dif_pos h, slots_four, slots_four, wp_bind, slotAt_idle c T P 0 0 _ (by omega), slotAt_idle c T P 0 1 _ (by omega),
    slotAt_idle c T P 0 2 _ (by omega), slotAt_idle c T P 0 3 _ (by omega), slotAt_idle c T P (0 + 1) 0 _ (by omega),
    slotAt_flying c T P (0 + 1) 1 _ 1 (by omega) (by omega), slotAt_flying c T P (0 + 1) 2 _ 2 (by omega) (by omega),
    slotAt_flying c T P (0 + 1) 3 _ 3 (by omega) (by omega)]
  unfold encAt
  iintro ⟨⟨⟨H0, H1, H2, H3⟩, HT, HX, ⟨%y, Hx⟩, Hc, ⟨%z, -, Hz⟩⟩, H4, H5, HO⟩ Hk
  iapply (loop1_step c T P 𝒱 defs i M4 h4 M5 h5 M6 h6 hT h _) $$ [H0 HT]
  · isplitl [H0]; · iexact H0
    iexact HT
  iintro ⟨H0, HT⟩
  rw [wp_bind]
  iapply (loop2_step c T P 𝒱 defs i M4 h4 M5 h5 M6 h6 hT h _) $$ [H1 HT]
  · isplitl [H1]; · iexact H1
    iexact HT
  iintro ⟨H1, HT⟩
  rw [wp_bind]
  iapply (loop3_step c T P 𝒱 defs i M4 h4 M5 h5 M6 h6 hT h _) $$ [H2 HT]
  · isplitl [H2]; · iexact H2
    iexact HT
  iintro ⟨H2, HT⟩
  rw [wp_bind]
  iapply (loop4_step c T P 𝒱 defs i M4 h4 M5 h5 M6 h6 hT h _) $$ [H3 HT]
  · isplitl [H3]; · iexact H3
    iexact HT
  iintro ⟨H3, HT⟩
  iapply (encOps_step c X W B 𝒱 defs M4 M5 y z _) $$ [HX Hx Hc H4 H5 Hz HO]
  · isplitl [HX]; · iexact HX
    isplitl [Hx]; · iexact Hx
    isplitl [Hc]; · iexact Hc
    isplitl [H4]; · iexact H4
    isplitl [H5]; · iexact H5
    isplitl [Hz]; · iexact Hz
    iexact HO
  iintro ⟨HX, Hx, Hc, H4, H5, Hz, HO⟩
  iapply Hk
  isplitl [H0 H1 H2 H3]
  · isplitl [H0]; · iexact H0
    iintro Hi
    isplitl [Hi]; · iexact Hi
    isplitl [H1]; · iexact H1
    isplitl [H2]; · iexact H2
    iexact H3
  isplitl [HT]; · iexact HT
  isplitl [HX]; · iexact HX
  isplitl [Hx]; · iexists X; iexact Hx
  isplitl [Hc]; · iexact Hc
  isplitl [Hz]; · iexact Hz
  isplitl [H4]; · iexact H4
  isplitl [H5]; · iexact H5
  iexact HO

include hT in
/-- A later point starts the step three ahead, when there is one. -/
theorem ahead_step (n : ℕ) (hn : 0 < n) (hN : n < 16) (hi : (i 0).val = n) (Q : Unit → sProp 𝕄) :
    iprop(slots c T P n ∗ table c T) ⊢ iprop((iprop(ready c T P n ∗ table c T) -∗ Q ⟨⟩)
        -∗ wp frame (wpE defs 𝒱 (c : Thread nD τ) none) Set.univ (partB i M4 h4 M5 h5 M6 h6) Q) := by
  have ha : (n + 3) % 4 < 4 := Nat.mod_lt _ (by omega)
  have hb : n % 4 < 4 := Nat.mod_lt _ (by omega)
  have hne : (n + 3) % 4 ≠ n % 4 := by omega
  unfold partB ready
  rw [slots_two c T P n _ _ ha hb hne, slots_two c T P (n + 1) _ _ ha hb hne, others_step c T P n hn,
    slotAt_idle c T P n ((n + 3) % 4) _ (by omega), slotAt_flying c T P n (n % 4) _ n (by omega) (by omega),
    slotAt_idle c T P (n + 1) (n % 4) _ (by omega)]
  by_cases h3 : n + 3 < 16
  · have h := (cond2_iff i).mpr ⟨by omega, by omega⟩
    rw [dif_pos h, wp_bind, slotAt_flying c T P (n + 1) ((n + 3) % 4) _ (n + 3) (by omega) (by omega)]
    iintro ⟨⟨Ha, Hb, Ho⟩, HT⟩ Hk
    iapply (loop5_step c T P 𝒱 defs i M4 h4 M5 h5 M6 h6 hT h ((n + 3) % 4) (n + 3) ha h3 (by rw [hi]) (by rw [hi]) _) $$ [Ha HT]
    · isplitl [Ha]; · iexact Ha
      iexact HT
    iintro ⟨Ha, HT⟩
    rw [wp_ret]
    imodintro
    iapply Hk
    isplitr [HT]
    · isplitl [Hb]; · iexact Hb
      iintro Hi
      isplitl [Ha]; · iexact Ha
      isplitl [Hi]; · iexact Hi
      iexact Ho
    iexact HT
  · have h : ¬k0_cond2 i = 1#1 := fun h => by have := (cond2_iff i).mp h; omega
    rw [dif_neg h, slotAt_idle c T P (n + 1) ((n + 3) % 4) _ (by omega), wp_ret]
    iintro ⟨⟨Ha, Hb, Ho⟩, HT⟩ Hk
    imodintro
    iapply Hk
    isplitr [HT]
    · isplitl [Hb]; · iexact Hb
      iintro Hi
      isplitl [Ha]; · iexact Ha
      isplitl [Hi]; · iexact Hi
      iexact Ho
    iexact HT

/-- Every point awaits its own step and stores its product. -/
theorem finish_step (n : ℕ) (hi : (i 0).val = n) (z : S10000x128.Idx → Elt F .bf16) (Q : Unit → sProp 𝕄) :
    iprop(ready c T P n ∗ own c (Memref.whole cc0_scratch0) z ∗ (∃ y, own c M6 y) ∗ waits c)
      ⊢ iprop((iprop(slots c T P (n + 1) ∗ own c (Memref.whole cc0_scratch0) z ∗ own c M6 (k0_pay2 (slab T P n) z) ∗ waits c) -∗ Q ⟨⟩)
        -∗ wp frame (wpE defs 𝒱 (c : Thread nD τ) none) Set.univ (loop6 i M4 h4 M5 h5 M6 h6 >>= fun _ => outOps i M6) Q) := by
  have hs : n % 4 < 4 := Nat.mod_lt _ (by omega)
  unfold ready
  rw [wp_bind]
  iintro ⟨⟨HF, Hw⟩, Hz, ⟨%y, Hy⟩, HO⟩ Hk
  iapply (loop6_step c T P 𝒱 defs i M4 h4 M5 h5 M6 h6 (n % 4) n hs (by rw [hi]) _) $$ [HF HO]
  · isplitl [HF]; · iexact HF
    iexact HO
  iintro ⟨Hc, Hr, HP, HO⟩
  imodintro
  iapply (outOps_step c T P 𝒱 defs i M6 n (n % 4) hs (by rw [hi]) z y _) $$ [Hr Hz Hy]
  · isplitl [Hr]; · iexact Hr
    isplitl [Hz]; · iexact Hz
    iexact Hy
  iintro ⟨Hr, Hz, Hy⟩
  imodintro
  iapply Hk
  isplitl [Hw Hc Hr HP]
  · iapply Hw
    unfold Idle
    isplitl [Hc]; · iexact Hc
    isplitl [Hr]; · iexists _; iexact Hr
    iexact HP
  isplitl [Hz]; · iexact Hz
  isplitl [Hy]; · iexact Hy
  iexact HO

include hT in
/-- The body at point `n`. -/
theorem body_step (n : ℕ) (hN : n < 16) (hi : (i 0).val = n) :
    iprop(state c T P X W B n ∗ own c M4 W ∗ own c M5 B ∗ (∃ y, own c M6 y) ∗ waits c)
      ⊢ wp frame (wpE defs 𝒱 (c : Thread nD τ) none) Set.univ
          (partA i M4 h4 M5 h5 M6 h6 >>= fun _ => partB i M4 h4 M5 h5 M6 h6 >>= fun _ => loop6 i M4 h4 M5 h5 M6 h6 >>= fun _ => outOps i M6)
          fun _ => iprop(state c T P X W B (n + 1) ∗ own c M4 W ∗ own c M5 B ∗ own c M6 (k0_pay2 (slab T P n) (k0_pay1 X W B)) ∗ waits c) := by
  rw [wp_bind]
  by_cases h0 : n = 0
  · subst h0
    iintro ⟨HS, H4, H5, HY, HO⟩
    iapply (start_step c T P X W B 𝒱 defs i M4 h4 M5 h5 M6 h6 hT hi _) $$ [HS H4 H5 HO]
    · isplitl [HS]; · iexact HS
      isplitl [H4]; · iexact H4
      isplitl [H5]; · iexact H5
      iexact HO
    iintro ⟨HR, HT, HX, Hx, Hc, Hz, H4, H5, HO⟩
    have h : ¬k0_cond2 i = 1#1 := fun h => by have := (cond2_iff i).mp h; omega
    rw [wp_bind]
    unfold partB
    rw [dif_neg h, wp_ret]
    imodintro
    iapply (finish_step c T P 𝒱 defs i M4 h4 M5 h5 M6 h6 0 hi (k0_pay1 X W B) _) $$ [HR Hz HY HO]
    · isplitl [HR]; · iexact HR
      isplitl [Hz]; · iexact Hz
      isplitl [HY]; · iexact HY
      iexact HO
    iintro ⟨HS, Hz, HY, HO⟩
    unfold state encAt
    isplitl [HS HT HX Hx Hc Hz]
    · isplitl [HS]; · iexact HS
      isplitl [HT]; · iexact HT
      isplitl [HX]; · iexact HX
      isplitl [Hx]; · iexact Hx
      isplitl [Hc]; · iexact Hc
      iexists _; isplitr
      · ipureintro; exact fun _ => rfl
      iexact Hz
    isplitl [H4]; · iexact H4
    isplitl [H5]; · iexact H5
    isplitl [HY]; · iexact HY
    iexact HO
  · have h : ¬k0_cond1 i = 1#1 := fun h => by have := (cond1_iff i).mp h; omega
    unfold partA
    rw [dif_neg h, wp_ret, wp_bind]
    unfold state encAt
    iintro ⟨⟨HS, HT, HX, Hx, Hc, ⟨%z, %hz, Hz⟩⟩, H4, H5, HY, HO⟩
    obtain rfl := hz (by omega)
    imodintro
    iapply (ahead_step c T P 𝒱 defs i M4 h4 M5 h5 M6 h6 hT n (by omega) hN hi _) $$ [HS HT]
    · isplitl [HS]; · iexact HS
      iexact HT
    iintro ⟨HR, HT⟩
    iapply (finish_step c T P 𝒱 defs i M4 h4 M5 h5 M6 h6 n hi (k0_pay1 X W B) _) $$ [HR Hz HY HO]
    · isplitl [HR]; · iexact HR
      isplitl [Hz]; · iexact Hz
      isplitl [HY]; · iexact HY
      iexact HO
    iintro ⟨HS, Hz, HY, HO⟩
    isplitl [HS HT HX Hx Hc Hz]
    · isplitl [HS]; · iexact HS
      isplitl [HT]; · iexact HT
      isplitl [HX]; · iexact HX
      isplitl [Hx]; · iexact Hx
      isplitl [Hc]; · iexact Hc
      iexists _; isplitr
      · ipureintro; exact fun _ => rfl
      iexact Hz
    isplitl [H4]; · iexact H4
    isplitl [H5]; · iexact H5
    isplitl [HY]; · iexact HY
    iexact HO

end Point

end Cert.KernelIdeal.Gather
end
-- ==== Proof.Edges.lean ====
/- Into the body's state before the first grid point, and out of it after the last. -/
module

public import proofs.«01_k».proof.Proof.Body
public import proofs.«01_k».proof.Proof.Gen.KernelIdeal.Launch
public import Idealize.ShloMosaic.Lib.Pipeline.FrameBody

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (c : Dev nD) (T : S4096.Idx → BitVec 32) (P : S10000x10000.Idx → Elt F .f32)
variable (X : S10000x128.Idx → Elt F .f32) (W : S128x128.Idx → Elt F .f32) (B : S1x128.Idx → Elt F .f32)

/-- A whole buffer, owned through its memref, is a points-to. -/
theorem own_whole (b : Ref sig .tc) (x : b.ty.Contents (Elt F)) :
    (owns (c : Thread nD τ) (Memref.whole b) fullShare x : sProp 𝕄) ⊣⊢ ((c : Thread nD τ).loc b ↦{fullShare} x) := by
  constructor
  · unfold owns; simp only [Memref.view_whole, View.read_whole, View.set_whole]
    iintro ⟨%f, %h, H⟩; subst h; iexact H
  · unfold owns; simp only [Memref.view_whole, View.read_whole, View.set_whole]
    iintro H; iexists x; isplitr
    · ipureintro; rfl
    iexact H

/-- Before the first point and after the last every slot is at rest. -/
theorem slots_rest (n : ℕ) (h : n = 0 ∨ n = 16) :
    (slots c T P n : sProp 𝕄) = bigSep Finset.univ fun s : Fin 4 => Idle c P s.val s.isLt := by
  unfold slots
  exact BI.bigSep_congr fun s _ => slotAt_idle c T P n s.val s.isLt (by have := s.isLt; omega)

/-- The ring's counters at zero. -/
def cells0 : sProp 𝕄 := bigSep Finset.univ fun s : Fin 4 => semVal ((c : Thread nD τ), SemLoc.dma (cell s.val s.isLt)) 0

theorem rest_in : iprop(cells0 c ∗ (∃ f, (c : Thread nD τ).loc cc0_scratch1 ↦{fullShare} f) ∗ ((c : Thread nD τ).loc main_arg2 ↦{fullShare} P))
    ⊢ (iprop(slots c T P 0 ∗ mat c P Finset.univ (Transfers.shareDrop fullShare 4)) : sProp 𝕄) := by
  rw [slots_rest c T P 0 (Or.inl rfl)]
  iintro ⟨Hc, ⟨%f, Hf⟩, HP⟩
  ihave HP' := (Transfers.pointsTo_toks fullShare 4).1 $$ HP
  icases HP' with ⟨Hd, HP⟩
  isplitr [Hd]
  · ihave Hf' := (Entails.of_eq (Ring.pointsTo_blocks (ℓ := (c : Thread nD τ).loc cc0_scratch1) (fun b : Fin 4 => slotSet b.val) slotSet_disjoint slotSet_cover f)) $$ Hf
    iapply (show iprop(cells0 c ∗ bigSep Finset.univ (fun s : Fin 4 => ring c (slotSet s.val) f) ∗ bigSep Finset.univ (fun s : Fin 4 => mat c P Finset.univ (slotQ s.val)))
        ⊢ (bigSep Finset.univ (fun s : Fin 4 => Idle c P s.val s.isLt) : sProp 𝕄) from by
      unfold cells0
      refine (sep_mono .rfl (Entails.of_eq (BI.bigSep_sep _ _ _).symm)).trans
        ((Entails.of_eq (BI.bigSep_sep _ _ _).symm).trans (BI.bigSep_mono fun s _ => ?_))
      unfold Idle
      show iprop(semVal ((c : Thread nD τ), SemLoc.dma (cell s.val s.isLt)) 0 ∗ ring c (slotSet s.val) f ∗ mat c P Finset.univ (slotQ s.val)) ⊢ _
      iintro ⟨Ha, Hb, Hd⟩
      isplitl [Ha]; · iexact Ha
      isplitl [Hb]; · iexists f; iexact Hb
      iexact Hd)
    isplitl [Hc]; · iexact Hc
    isplitl [Hf']; · iexact Hf'
    iexact HP
  · iexact Hd

theorem rest_out : (iprop(slots c T P 16 ∗ mat c P Finset.univ (Transfers.shareDrop fullShare 4)) : sProp 𝕄)
    ⊢ iprop(cells0 c ∗ (∃ f, (c : Thread nD τ).loc cc0_scratch1 ↦{fullShare} f) ∗ ((c : Thread nD τ).loc main_arg2 ↦{fullShare} P)) := by
  rw [slots_rest c T P 16 (Or.inr rfl)]
  iintro ⟨H, Hd⟩
  ihave H' := (show (bigSep Finset.univ (fun s : Fin 4 => Idle c P s.val s.isLt) : sProp 𝕄)
      ⊢ iprop(cells0 c ∗ bigSep Finset.univ (fun s : Fin 4 => iprop(∃ f, ring c (slotSet s.val) f)) ∗ bigSep Finset.univ (fun s : Fin 4 => mat c P Finset.univ (slotQ s.val))) from by
    unfold cells0 Idle
    exact (Entails.of_eq (BI.bigSep_sep _ _ _)).trans (sep_mono .rfl (Entails.of_eq (BI.bigSep_sep _ _ _)))) $$ H
  icases H' with ⟨Hc, Hf, HP⟩
  isplitl [Hc]; · iexact Hc
  isplitl [Hf]
  · iapply (Ring.pointsTo_blocks_join_exists (ℓ := (c : Thread nD τ).loc cc0_scratch1) (fun b : Fin 4 => slotSet b.val) slotSet_disjoint slotSet_cover
      (gathered T P 0)) $$ Hf
  · iapply (Transfers.pointsTo_toks fullShare 4).2
    isplitl [Hd]; · iexact Hd
    iexact HP

/-- What the launch hands the body of the buffers and cells it uses. -/
def held : sProp 𝕄 :=
  iprop(((∃ f, (c : Thread nD τ).loc cc0_scratch0 ↦{fullShare} f) ∗ (∃ f, (c : Thread nD τ).loc cc0_scratch1 ↦{fullShare} f)
      ∗ (∃ f, (c : Thread nD τ).loc cc0_scratch2 ↦{fullShare} f))
    ∗ (cells0 c ∗ xSem c) ∗ ((c : Thread nD τ).loc main_arg0 ↦{fullShare} X) ∗ ((c : Thread nD τ).loc main_arg2 ↦{fullShare} P))

/-- The body's state with the matrix's share no slot uses. -/
def inv (n : ℕ) : sProp 𝕄 := iprop(state c T P X W B n ∗ mat c P Finset.univ (Transfers.shareDrop fullShare 4))

theorem inv_in : iprop(held c P X ∗ table c T) ⊢ (inv c T P X W B 0 : sProp 𝕄) := by
  unfold held inv state encAt
  iintro ⟨⟨⟨⟨%e, He⟩, Hr, ⟨%x, Hx⟩⟩, ⟨Hc, Hs⟩, HX, HP⟩, HT⟩
  ihave H := (rest_in c T P) $$ [Hc Hr HP]
  · isplitl [Hc]; · iexact Hc
    isplitl [Hr]; · iexact Hr
    iexact HP
  icases H with ⟨HS, Hd⟩
  isplitr [Hd]
  · isplitl [HS]; · iexact HS
    isplitl [HT]; · iexact HT
    isplitl [HX]
    · iapply (own_whole c main_arg0 X).2 $$ HX
    isplitl [Hx]
    · iexists x; iapply (own_whole c cc0_scratch2 x).2 $$ Hx
    isplitl [Hs]; · iexact Hs
    iexists e; isplitr
    · ipureintro; exact fun h => absurd h (by omega)
    iapply (own_whole c cc0_scratch0 e).2 $$ He
  · iexact Hd

theorem inv_out : (inv c T P X W B 16 : sProp 𝕄) ⊢ held c P X := by
  unfold held inv state encAt
  iintro ⟨⟨HS, HT, HX, ⟨%x, Hx⟩, Hs, ⟨%e, -, He⟩⟩, Hd⟩
  ihave H := (rest_out c T P) $$ [HS Hd]
  · isplitl [HS]; · iexact HS
    iexact Hd
  icases H with ⟨Hc, Hr, HP⟩
  isplitl [He Hr Hx]
  · isplitl [He]
    · iexists e; iapply (own_whole c cc0_scratch0 e).1 $$ He
    isplitl [Hr]; · iexact Hr
    iexists x; iapply (own_whole c cc0_scratch2 x).1 $$ Hx
  isplitl [Hc Hs]
  · isplitl [Hc]; · iexact Hc
    iexact Hs
  isplitl [HX]
  · iapply (own_whole c main_arg0 X).1 $$ HX
  iexact HP

end Cert.KernelIdeal.Gather
end
-- ==== Proof.Launch.lean ====
/- The launch: the proof data of the one pipeline, the body's obligation, the run, and what it leaves. -/
module

public import proofs.«01_k».proof.Proof.Edges
public import Idealize.ShloMosaic.Lib.Pipeline.Frame

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

open Idealize.ShloMosaic.Pipeline (Dat Cfg Window BodyObligation)

variable (m : (ℓ : Loc nD τ sig) → Buf (Elt F) ℓ) (ρ : Dev nD → PrngReg)

/-- The buffers as the region finds them: after the host's reshape of the bias. -/
abbrev V (c : Dev nD) (b : Ref sig .tc) : Buf (Elt F) ((c : Thread nD τ).loc b) := StableHlo.after hostOps0 (fun b => m (c, b)) b

theorem V_of_ne (c : Dev nD) {b : Ref sig .tc} (h : b ≠ main_v0) : V m c b = m ((c : Thread nD τ).loc b) := by
  show StableHlo.after hostOps0 _ (Proc.devRef .tc b) = _
  rw [StableHlo.after_cons, StableHlo.after_nil]
  exact StableHlo.reshape_result_ne _ _ _ _ _ _ _ h

theorem hmain : Pipeline.HMainP (Ix := Unit) (Name := ℕ) (U := UU) (Lvl := ℕ) (pcfgs (F := F)) 0 defs₀ Variants.none m main (V m) :=
  Pipeline.hmainP_prefix pcfgs 0 defs₀ Variants.none m main hostOps0 hostOps0_sub rfl main_chain

/-- The table at the region's entry. -/
def adm : (pcfg0 (F := F)).Adm := ⟨fun k => V m 0 (pre0.ref k), trivial⟩

abbrev cfg : Cfg sig Λ₀ := cfg0 (adm m)

abbrev Tt (c : Dev nD) : S4096.Idx → BitVec 32 := V m c main_arg1
abbrev Pp (c : Dev nD) : S10000x10000.Idx → Elt F .f32 := V m c main_arg2
abbrev Xx (c : Dev nD) : S10000x128.Idx → Elt F .f32 := V m c main_arg0
abbrev Ww (c : Dev nD) : S128x128.Idx → Elt F .f32 := V m c main_arg3
abbrev Bb (c : Dev nD) : S1x128.Idx → Elt F .f32 := V m c main_v0

/-- The result's block at a point. -/
def outAt (c : Dev nD) (n : ℕ) : S256x128.Idx → Elt F .f32 := k0_pay2 (slab (Tt m c) (Pp m c) n) (k0_pay1 (Xx m c) (Ww m c) (Bb m c))

/-- The body's invariant before point `n`. -/
def Phi (c : Dev nD) (n : ℕ) : sProp 𝕄 := iprop(inv c (Tt m c) (Pp m c) (Xx m c) (Ww m c) (Bb m c) n ∗ ∃ r, prngReg c r)

def dats (_ : Fin 1) (c : Dev nD) : Dat τ (Elt F) Unit ℕ UU ℕ (cfg m) c where
  A w := V m c (Pipeline.arrRef spec0 w)
  after w t := match w with
    | ⟨0, _⟩ => Ww m c
    | ⟨1, _⟩ => Bb m c
    | ⟨2, _⟩ => outAt m c t.val
  Φ t := Phi m c t.val
  q _ := fullShare
  owed _ := 0

theorem after_0 (c : Dev nD) (t : Fin (cfg m).N) : (dats m 0 c).after 0 t = Ww m c := rfl
theorem after_1 (c : Dev nD) (t : Fin (cfg m).N) : (dats m 0 c).after 1 t = Bb m c := rfl
theorem after_2 (c : Dev nD) (t : Fin (cfg m).N) : (dats m 0 c).after 2 t = outAt m c t.val := rfl

/-- The weights' window is the weights at every point, -/
theorem block_0 (c : Dev nD) (t : Fin (cfg m).N) : (dats m 0 c).blockOf 0 t = Ww m c := by
  refine funext fun (y : S128x128.Idx) => congrArg (Ww m c) (funext fun a => Fin.ext ?_)
  fin_cases a
  · show 0 * 128 + 1 * (y 0).val = (y 0).val; omega
  · show 0 * 128 + 1 * (y 1).val = (y 1).val; omega
/-- and the bias's the bias. -/
theorem block_1 (c : Dev nD) (t : Fin (cfg m).N) : (dats m 0 c).blockOf 1 t = Bb m c := by
  refine funext fun (y : S1x128.Idx) => congrArg (Bb m c) (funext fun a => Fin.ext ?_)
  fin_cases a
  · show 0 * 1 + 1 * (y 0).val = (y 0).val; omega
  · show 0 * 128 + 1 * (y 1).val = (y 1).val; omega

theorem before_0 (c : Dev nD) (t : Fin (cfg m).N) (d) : (dats m 0 c).before 0 t d = Ww m c :=
  ((dats m 0 c).before_in_eq_fetched 0 rfl (fun _ => rfl) (fun _ _ _ => rfl) (fun t => (after_0 m c t).trans (block_0 m c t).symm) t d).trans (block_0 m c t)
theorem before_1 (c : Dev nD) (t : Fin (cfg m).N) (d) : (dats m 0 c).before 1 t d = Bb m c :=
  ((dats m 0 c).before_in_eq_fetched 1 rfl (fun _ => rfl) (fun _ _ _ => rfl) (fun t => (after_1 m c t).trans (block_1 m c t).symm) t d).trans (block_1 m c t)

/-- What the precondition gives of the table. -/
def TableOk : Prop := ∀ (c : Dev nD) y, ((m ((c : Thread nD τ).loc main_arg1) : S4096.Idx → BitVec 32) y).toNat < 10000

/-- The body at a point, its windows at their contents. -/
theorem point (hok : TableOk m) (c : Dev nD) (t : Fin grid0.N) (M4 : Memref sig .tc .vmem S128x128 .f32) (h4 : M4.IsWhole)
    (M5 : Memref sig .tc .vmem S1x128 .f32) (h5 : M5.IsWhole) (M6 : Memref sig .tc .vmem S256x128 .f32) (h6 : M6.IsWhole) :
    iprop(Phi m c t.val ∗ waits c ∗ own c M4 (Ww m c) ∗ own c M5 (Bb m c) ∗ (∃ y, own c M6 y))
      ⊢ wp frame (wpE (defs₀ (F := F)) Variants.none c none) Set.univ
          (cc0__body (grid0.coords t) (Memref.whole main_arg1) (Memref.isWhole_whole _) (Memref.whole main_arg2) (Memref.isWhole_whole _) (Memref.whole main_arg0) (Memref.isWhole_whole _)
            M4 h4 M5 h5 M6 h6 (Memref.whole cc0_scratch0) (Memref.isWhole_whole _) (Memref.whole cc0_scratch1) (Memref.isWhole_whole _)
            (Memref.whole cc0_scratch2) (Memref.isWhole_whole _) cc0_scratch3 cc0_scratch4) (fun _ =>
        iprop(Phi m c (t.val + 1) ∗ waits c ∗ own c M4 (Ww m c) ∗ own c M5 (Bb m c) ∗ own c M6 (outAt m c t.val))) := by
  have hN : t.val < 16 := lt_of_lt_of_eq t.isLt N_0
  have hT : ∀ y, (Tt m c y).toNat < 10000 := fun y => by
    have e : Tt m c = m ((c : Thread nD τ).loc main_arg1) := V_of_ne m c (by decide)
    rw [e]; exact hok c y
  rw [body_parts]
  unfold Phi inv outAt
  iintro ⟨⟨⟨HS, Hd⟩, Hg⟩, HO, H4, H5, H6⟩
  ihave H := (body_step c (Tt m c) (Pp m c) (Xx m c) (Ww m c) (Bb m c) Variants.none (defs₀ (F := F)) (grid0.coords t)
    M4 h4 M5 h5 M6 h6
    hT t.val hN (coord_val t)) $$ [HS H4 H5 H6 HO]
  · isplitl [HS]; · iexact HS
    isplitl [H4]; · iexact H4
    isplitl [H5]; · iexact H5
    isplitl [H6]; · iexact H6
    iexact HO
  iapply (wp_wand frame (wpE (defs₀ (F := F)) Variants.none c none)) $$ H
  iintro %u ⟨HS, H4, H5, H6, HO⟩
  isplitl [HS Hd Hg]
  · isplitl [HS Hd]
    · isplitl [HS]; · iexact HS
      iexact Hd
    iexact Hg
  isplitl [HO]; · iexact HO
  isplitl [H4]; · iexact H4
  isplitl [H5]; · iexact H5
  iexact H6

theorem defs₀_row (t : Fin grid0.N) (s : (w : Fin 3) → Fin (spec0 w).nbuf) :
    defs₀ (F := F) .tc 0 (t, s) = cc0__body (grid0.coords t) (Memref.whole main_arg1) (Memref.isWhole_whole _) (Memref.whole main_arg2) (Memref.isWhole_whole _) (Memref.whole main_arg0) (Memref.isWhole_whole _)
      (spec0_0.stage (s 0)) (hstage0_0 ((s 0).cast nbuf0_0)) (spec0_1.stage (s 1)) (hstage0_1 ((s 1).cast nbuf0_1)) (spec0_2.stage (s 2)) (hstage0_2 ((s 2).cast nbuf0_2))
      (Memref.whole cc0_scratch0) (Memref.isWhole_whole _) (Memref.whole cc0_scratch1) (Memref.isWhole_whole _) (Memref.whole cc0_scratch2) (Memref.isWhole_whole _) cc0_scratch3 cc0_scratch4 := by
  unfold defs₀; rw [Defs.onTc_tc]

theorem body_obligation (hok : TableOk m) (c : Dev nD) : BodyObligation (dats m 0 c) (defs₀ (F := F)) Variants.none () Set.univ := fun t => by
  rw [bigSep_W0, bigSep_W0]
  refine triple_restated (point m hok c t (spec0_0.stage ((cfg m).slots t 0)) (hstage0_0 (((cfg m).slots t 0).cast nbuf0_0))
    (spec0_1.stage ((cfg m).slots t 1)) (hstage0_1 (((cfg m).slots t 1).cast nbuf0_1))
    (spec0_2.stage ((cfg m).slots t 2)) (hstage0_2 (((cfg m).slots t 2).cast nbuf0_2)))
    (congrArg (fun p => wp frame (wpE (defs₀ (F := F)) Variants.none c none) Set.univ p) (defs₀_row t ((cfg m).slots t)).symm) ?_ fun _ => ?_
  · unfold Dat.owesAt Pipeline.owesWithin
    iintro ⟨HΦ, ⟨%O, -, HO⟩, ⟨%d0, H4⟩, ⟨%d1, H5⟩, ⟨%d2, H6⟩⟩
    isplitl [HΦ]; · iapply (Entails.of_eq (show (dats m 0 c).Φ t.castSucc = Phi m c t.val from rfl)) $$ HΦ
    isplitl [HO]; · iexists O; iexact HO
    isplitl [H4]
    · iapply (Entails.of_eq (congrArg (fun x => own c (spec0_0.stage ((cfg m).slots t 0)) x) (before_0 m c t d0))) $$ H4
    isplitl [H5]
    · iapply (Entails.of_eq (congrArg (fun x => own c (spec0_1.stage ((cfg m).slots t 1)) x) (before_1 m c t d1))) $$ H5
    iexists _; iexact H6
  · unfold Dat.owesAt Pipeline.owesWithin
    iintro ⟨HΦ, ⟨%O, HO⟩, H4, H5, H6⟩
    isplitl [HΦ]; · iapply (Entails.of_eq (show Phi m c (t.val + 1) = (dats m 0 c).Φ t.succ from rfl)) $$ HΦ
    isplitl [HO]
    · iexists O; isplitr; · ipureintro; exact fun _ _ => Or.inl trivial
      iexact HO
    isplitl [H4]; · iexact H4
    isplitl [H5]; · iexact H5
    iexact H6

/-! ## The run -/

/-- The body's own cells: the ring's four, and the copy of `X`'s. -/
def osem : Fin 5 → SemLoc sig := fun k => if h : k.val < 4 then SemLoc.dma (cell k.val h) else SemLoc.dma cc0_scratch4.sem

theorem osem_facts : Pipeline.OwnSemFacts spec0 osem := by decide

/-- The buffers the body addresses itself. -/
def HH : Finset (Ref sig .tc) := {main_arg0, main_arg2}

theorem HH_sub : HH ⊆ Pipeline.restRefsP sig pre0 spec0 := by decide

theorem ownSems_eq (c : Dev nD) :
    (Pipeline.ownSems0 (Ix := Unit) (Name := ℕ) (U := UU) (Lvl := ℕ) (Val := Elt F) (τ := τ) osem c : sProp 𝕄)
      = iprop(semVal ((c : Thread nD τ), SemLoc.dma (cell 0 (by omega))) 0 ∗ semVal ((c : Thread nD τ), SemLoc.dma (cell 1 (by omega))) 0
        ∗ semVal ((c : Thread nD τ), SemLoc.dma (cell 2 (by omega))) 0 ∗ semVal ((c : Thread nD τ), SemLoc.dma (cell 3 (by omega))) 0 ∗ xSem c) :=
  bigSep_univ_eq_bigSepL [(0 : Fin 5), (1 : Fin 5), (2 : Fin 5), (3 : Fin 5), (4 : Fin 5)] (by decide) (by decide) _

theorem cells_eq (c : Dev nD) :
    (cells0 c : sProp 𝕄)
      = iprop(semVal ((c : Thread nD τ), SemLoc.dma (cell 0 (by omega))) 0 ∗ semVal ((c : Thread nD τ), SemLoc.dma (cell 1 (by omega))) 0
        ∗ semVal ((c : Thread nD τ), SemLoc.dma (cell 2 (by omega))) 0 ∗ semVal ((c : Thread nD τ), SemLoc.dma (cell 3 (by omega))) 0) :=
  bigSep_univ_eq_bigSepL [(0 : Fin 4), (1 : Fin 4), (2 : Fin 4), (3 : Fin 4)] (by decide) (by decide) _

theorem HH_eq (c : Dev nD) :
    (bigSep HH (fun b => ((c : Thread nD τ).loc b) ↦{fullShare} V m c b) : sProp 𝕄)
      = iprop(((c : Thread nD τ).loc main_arg0 ↦{fullShare} Xx m c) ∗ ((c : Thread nD τ).loc main_arg2 ↦{fullShare} Pp m c)) := by
  unfold HH
  rw [bigSep_insert (by decide), BI.bigSep_singleton]
  rfl

theorem table_eq (c : Dev nD) : (Pipeline.ΦT (U := UU) pre0 (adm m).1 c : sProp 𝕄) ⊢ table c (Tt m c) := by
  obtain rfl : c = 0 := Subsingleton.elim _ _
  exact Entails.of_eq (bigSep_univ_eq_bigSepL [(0 : Fin 1)] (by decide) (by decide) _)

theorem enter (c : Dev nD) : iprop(Pipeline.ΦD osem spec0 HH (V m) c ∗ Pipeline.ΦT pre0 (adm m).1 c) ⊢ (Phi m c 0 : sProp 𝕄) := by
  rw [Pipeline.ΦD_eq, scopedRest0_eq, ownSems_eq, HH_eq]
  unfold Phi
  iintro ⟨⟨Hs, Hg, ⟨Q0, Q1, Q2, Q3, Q4⟩, HX, HP⟩, HT⟩
  isplitr [Hg]
  · iapply (inv_in c (Tt m c) (Pp m c) (Xx m c) (Ww m c) (Bb m c))
    isplitr [HT]
    · unfold held
      rw [cells_eq]
      isplitl [Hs]; · iexact Hs
      isplitl [Q0 Q1 Q2 Q3 Q4]
      · isplitr [Q4]
        · isplitl [Q0]; · iexact Q0
          isplitl [Q1]; · iexact Q1
          isplitl [Q2]; · iexact Q2
          iexact Q3
        · iexact Q4
      isplitl [HX]; · iexact HX
      iexact HP
    · iapply (table_eq m c) $$ HT
  · iexact Hg
theorem leave (c : Dev nD) : (Phi m c 16 : sProp 𝕄) ⊢ Pipeline.ΦD osem spec0 HH (V m) c := by
  rw [Pipeline.ΦD_eq, scopedRest0_eq, ownSems_eq, HH_eq]
  unfold Phi
  iintro ⟨HI, Hg⟩
  ihave H := (inv_out c (Tt m c) (Pp m c) (Xx m c) (Ww m c) (Bb m c)) $$ HI
  unfold held
  rw [cells_eq]
  icases H with ⟨Hs, ⟨⟨Q0, Q1, Q2, Q3⟩, Q4⟩, HX, HP⟩
  isplitl [Hs]; · iexact Hs
  isplitl [Hg]; · iexact Hg
  isplitl [Q0 Q1 Q2 Q3 Q4]
  · isplitl [Q0]; · iexact Q0
    isplitl [Q1]; · iexact Q1
    isplitl [Q2]; · iexact Q2
    isplitl [Q3]; · iexact Q3
    iexact Q4
  isplitl [HX]; · iexact HX
  iexact HP

theorem run_main (hok : TableOk m) : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP_dma (Q' := _) pcfgs (fun _ => adm m) (dats m) (0 : Fin 1) launch0 osem defs₀ Variants.none osem_facts HH HH_sub m ρ main
    (hbody := fun c => (body_obligation m hok c).loose) (hshare := fun c => (dats m 0 c).share_full fun _ => rfl)
    (howed := fun _ _ => rfl) (V := V m) (hmain := hmain m) (hA := fun _ _ => rfl)
    (hpf := fun c k => by obtain rfl : c = 0 := Subsingleton.elim _ _; rfl)
    (hin := fun c => enter m c) (hout := fun c => leave m c)

end Cert.KernelIdeal.Gather
end
-- ==== Proof.Run.lean ====
/- What the run leaves: the result array in closed form, the arguments as they were. -/
module

public import proofs.«01_k».proof.Proof.Launch
public import Idealize.ShloMosaic.Lib.Pipeline.Value

@[expose] public section

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

open Idealize.ShloMosaic.Pipeline (Dat Cfg Window)

variable (m : (ℓ : Loc nD τ sig) → Buf (Elt F) ℓ) (ρ : Dev nD → PrngReg)

/-- The result: row `r` is row `r % 256` of the block at point `r / 256`. -/
def result (c : Dev nD) : S4096x128.Idx → Elt F .f32 := fun y =>
  outAt m c ((y 0).val / 256) (ix2 (⟨(y 0).val % 256, Nat.mod_lt _ (by omega)⟩ : Fin 256) (y 1 : Fin 128))

theorem index_2 (t : Fin grid0.N) : cc0_transform_4 (grid0.coords t) = ![t.val, 0] := by
  rcases fin_N0 t with h | h | h | h | h | h | h | h | h | h | h | h | h | h | h | h <;> subst h <;> decide

theorem blk_emb (t : Fin (cfg m).N) (x : S256x128.Idx) :
    ((((cfg m).win 2).blk t).view.emb x : S4096x128.Idx) = ix2 (⟨t.val * 256 + (x 0).val, by have : (x 0).val < 256 := (x 0).isLt; have : t.val < 16 := lt_of_lt_of_eq t.isLt N_0; omega⟩ : Fin 4096) (x 1 : Fin 128) := by
  have e := index_2 t
  have e0 : cc0_transform_4 (grid0.coords t) 0 = t.val := by rw [e]; rfl
  have e1 : cc0_transform_4 (grid0.coords t) 1 = 0 := by rw [e]; rfl
  refine @funext (Fin 2) (fun a => Fin (S4096x128.size a)) _ _ fun a => Fin.ext ?_
  fin_cases a
  · show cc0_transform_4 (grid0.coords t) 0 * 256 + 1 * (x 0).val = t.val * 256 + (x 0).val; rw [e0]; omega
  · show cc0_transform_4 (grid0.coords t) 1 * 128 + 1 * (x 1).val = (x 1).val; rw [e1]; omega

theorem flushed_eq (c : Dev nD) (t : Fin (cfg m).N) : (dats m 0 c).flushed 2 t = (((cfg m).win 2).blk t).view.read (Elt F) (result m c) := by
  suffices key : ∀ x : S256x128.Idx, outAt m c t.val x = result m c ((((cfg m).win 2).blk t).view.emb x) from funext key
  intro x
  refine Eq.trans ?_ (congrArg (result m c) (blk_emb m t x)).symm
  have h0 : (x 0).val < 256 := (x 0).isLt
  unfold result
  have e1 : (t.val * 256 + (x 0).val) / 256 = t.val := by omega
  have e2 : (t.val * 256 + (x 0).val) % 256 = (x 0).val := by omega
  show outAt m c t.val x = outAt m c ((t.val * 256 + (x 0).val) / 256) (ix2 (⟨(t.val * 256 + (x 0).val) % 256, _⟩ : Fin 256) (x 1 : Fin 128))
  rw [e1]
  congr 1
  funext a; fin_cases a
  · exact Fin.ext e2.symm
  · rfl

/-- Every point writes its block back. -/
theorem flush_2 (t : Fin (cfg m).N) : ((cfg m).win 2).flush t = true := by
  rw [Pipeline.Window.flush_eq_flushOf]
  exact (by decide : ∀ t : Fin grid0.N, Pipeline.Window.flushOf grid0 true cc0_transform_4 t = true) t

theorem final_eq (c : Dev nD) : (dats m 0 c).arrAt 2 (cfg m).N = result m c :=
  (dats m 0 c).arrAt_eq_of_cover 2 (result m c) (fun t _ => flushed_eq m c t) fun (y : S4096x128.Idx) => by
    have h0 : (y 0).val < 4096 := (y 0).isLt
    refine ⟨⟨(y 0).val / 256, by show _ < grid0.N; rw [N_0]; omega⟩, ?_, ?_⟩
    · exact flush_2 m _
    · refine Finset.mem_map.mpr ⟨ix2 (⟨(y 0).val % 256, Nat.mod_lt _ (by omega)⟩ : Fin 256) (y 1 : Fin 128), Finset.mem_univ _, ?_⟩
      refine (blk_emb m _ _).trans ?_
      funext a; fin_cases a
      · exact Fin.ext (show (y 0).val / 256 * 256 + (y 0).val % 256 = (y 0).val by omega)
      · rfl

/-- The run: the result in closed form, the five arguments unchanged, every counter at zero. -/
theorem kernel_run (hok : TableOk m) : θ_run defs (onTc (τ := τ) (main (F := F))) ⟨m, fun _ => 0, ρ⟩ (fun r => (∀ c : Dev nD,
      r.2.mem ((c : Thread nD τ).loc main_v1) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ⟨?_, ?_, ?_, ?_, ?_, ?_⟩, h.2⟩) (run_main m ρ hok)
  · exact ((h.1 c).1 2).trans (final_eq m c)
  · exact ((h.1 c).2 main_arg0 (Pipeline.mem_restRefs_of (win := spec0) main_arg0 (by decide) (by decide))).trans (V_of_ne m c (by decide))
  · exact ((h.1 c).2 main_arg1 (Pipeline.mem_restRefs_of (win := spec0) main_arg1 (by decide) (by decide))).trans (V_of_ne m c (by decide))
  · exact ((h.1 c).2 main_arg2 (Pipeline.mem_restRefs_of (win := spec0) main_arg2 (by decide) (by decide))).trans (V_of_ne m c (by decide))
  · exact (((h.1 c).1 0).trans ((dats m 0 c).arrAt_in 0 rfl _)).trans (V_of_ne m c (b := main_arg3) (by decide))
  · exact ((h.1 c).2 main_arg4 (Pipeline.mem_restRefs_of (win := spec0) main_arg4 (by decide) (by decide))).trans (V_of_ne m c (by decide))

end Cert.KernelIdeal.Gather
end
-- ==== Proof.KernelValue.lean ====
/- The kernel's result over exact numbers: each element as a sum of products of a gathered row with the
   encoded table's column. -/
module

public import proofs.«01_k».proof.Proof.Run
public import Idealize.ShloMosaic.Lib.MatmulPlain
public import Idealize.ShloMosaic.Lib.StableHlo.Run
public import Idealize.ShloMosaic.Lib.Pipeline.Value

@[expose] public section

noncomputable section

/-- Row `k`, column `j` of the encoded table `X · W + b`. -/
def Cert.encoded (X : (⟨2, ![10000, 128]⟩ : Idealize.ShloMosaic.Shape).Idx → EReal) (W : (⟨2, ![128, 128]⟩ : Idealize.ShloMosaic.Shape).Idx → EReal)
    (b : (⟨1, ![128]⟩ : Idealize.ShloMosaic.Shape).Idx → EReal) (k : Fin 10000) (j : Fin 128) : EReal :=
  (∑ q : Fin 128, X (Idealize.ShloMosaic.ValueIdx.ix2 k q) * W (Idealize.ShloMosaic.ValueIdx.ix2 q j)) + b (Idealize.ShloMosaic.ValueIdx.ix1 j)

/-- Row `r`, column `j` of the result: the row of `P` that `T` names at `r`, times the encoded table. -/
def Cert.looked (X : (⟨2, ![10000, 128]⟩ : Idealize.ShloMosaic.Shape).Idx → EReal) (T : (⟨1, ![4096]⟩ : Idealize.ShloMosaic.Shape).Idx → BitVec 32)
    (P : (⟨2, ![10000, 10000]⟩ : Idealize.ShloMosaic.Shape).Idx → EReal) (W : (⟨2, ![128, 128]⟩ : Idealize.ShloMosaic.Shape).Idx → EReal)
    (b : (⟨1, ![128]⟩ : Idealize.ShloMosaic.Shape).Idx → EReal) (r : ℕ) (j : Fin 128) : EReal :=
  ∑ k : Fin 10000, P (Idealize.ShloMosaic.ValueIdx.ix2 (⟨Cert.KernelIdeal.Gather.rowOf T r, Cert.KernelIdeal.Gather.rowOf_lt T r⟩ : Fin 10000) k)
    * Cert.encoded X W b k j

namespace Cert.KernelIdeal.Gather

open Cert.KernelIdeal Cert.KernelIdeal.Gen
open Idealize.ShloMosaic Idealize.ShloMosaic.TcCoe Idealize.SL.Sem
open Idealize.ShloMosaic.ValueIdx

/-- The encoder's payload at `(k, j)`. -/
theorem enc_apply (X : S10000x128.Idx → EReal) (W : S128x128.Idx → EReal) (B : S1x128.Idx → EReal) (k : Fin 10000) (j : Fin 128) :
    k0_pay1 (F := Ideal) X W B (ix2 k j)
      = (∑ q : Fin 128, X (ix2 k q) * W (ix2 q j)) + B (ix2 (0 : Fin 1) j) := by
  have hm := Ideal.matmul_plain_apply (φ₁ := .f32) (φ₂ := .f32) none X W (constant (F := Ideal) S10000x128 .f32 0x00000000#32) k j
  unfold k0_pay1
  simp only [shapeCast_self]
  refine congrArg₂ (· + ·) (hm.trans ?_) ?_
  · exact (congrArg (· + _) Ideal.ofBits_zero_f32).trans (zero_add _)
  · refine congrArg B (funext fun a => Fin.ext ?_)
    match a with
    | ⟨0, _⟩ => rfl
    | ⟨1, _⟩ => rfl

/-- The product's payload at `(r, j)`. -/
theorem prod_apply (S : S1x256x10000.Idx → EReal) (E : S10000x128.Idx → EReal) (r : Fin 256) (j : Fin 128) :
    k0_pay2 (F := Ideal) S E (ix2 r j) = ∑ k : Fin 10000, S (ix3 (0 : Fin 1) r k) * E (ix2 k j) := by
  have hm := Ideal.matmul_plain_apply (φ₁ := .bf16) (φ₂ := .bf16) none
    (shapeCast S256x10000 S shapeCasts_S1x256x10000_S256x10000 : S256x10000.Idx → EReal) E
    (constant (F := Ideal) S256x128 .f32 0x00000000#32) r j
  unfold k0_pay2
  refine hm.trans ?_
  refine ((congrArg (· + _) Ideal.ofBits_zero_f32).trans (zero_add _)).trans ?_
  refine Finset.sum_congr rfl fun k _ => congrArg (· * _) ?_
  refine (shapeCast_dropUnit_apply ![256, 10000] S _ (ix2 r k)).trans (congrArg S (funext fun a => ?_))
  match a with
  | ⟨0, _⟩ => rfl
  | ⟨1, _⟩ => rfl
  | ⟨2, _⟩ => rfl

variable (m : (ℓ : Loc nD τ sig) → Buf (Elt Ideal) ℓ)

/-- The bias row is the bias, reshaped by the host before the launch. -/
theorem bias_apply (c : Dev nD) (j : Fin 128) :
    Bb m c (ix2 (0 : Fin 1) j) = (m ((c : Thread nD τ).loc main_arg4) : S128.Idx → EReal) (ix1 j) := by
  have e : Bb m c = shapeCast S1x128 (m ((c : Thread nD τ).loc main_arg4) : S128.Idx → EReal) shapeCasts_S128_S1x128 := by
    show StableHlo.after hostOps0 _ (Proc.devRef .tc main_v0) = _
    rw [StableHlo.after_cons, StableHlo.after_nil]
    exact StableHlo.reshape_result main_arg4 main_v0 rfl shapeCasts_S128_S1x128 _ _ _
  rw [e]
  refine (shapeCast_addUnit_apply ![128] _ _ (ix2 (0 : Fin 1) j)).trans (congrArg _ (funext fun a => ?_))
  match a with
  | ⟨0, _⟩ => rfl

theorem result_apply (c : Dev nD) (y : S4096x128.Idx) :
    result m c y = Cert.looked (m ((c : Thread nD τ).loc main_arg0)) (m ((c : Thread nD τ).loc main_arg1))
      (m ((c : Thread nD τ).loc main_arg2)) (m ((c : Thread nD τ).loc main_arg3)) (m ((c : Thread nD τ).loc main_arg4)) (y 0).val (y 1) := by
  have hr : 256 * ((y 0).val / 256) + (y 0).val % 256 = (y 0).val := by omega
  refine (prod_apply _ _ _ _).trans (Finset.sum_congr rfl fun k _ => congrArg₂ (· * ·) ?_ ?_)
  · have e2 : Pp m c = m ((c : Thread nD τ).loc main_arg2) := V_of_ne m c (by decide)
    have e1 : Tt m c = m ((c : Thread nD τ).loc main_arg1) := V_of_ne m c (by decide)
    show slab (Tt m c) (Pp m c) _ (ix3 (0 : Fin 1) _ k) = _
    rw [e1, e2]
    refine congrArg (m ((c : Thread nD τ).loc main_arg2) : S10000x10000.Idx → EReal) ?_
    refine congrArg (fun a : Fin 10000 => ix2 a k) (Fin.ext ?_)
    exact congrArg (rowOf _) hr
  · have e0 : Xx m c = m ((c : Thread nD τ).loc main_arg0) := V_of_ne m c (by decide)
    have e3 : Ww m c = m ((c : Thread nD τ).loc main_arg3) := V_of_ne m c (by decide)
    refine (enc_apply _ _ _ _ _).trans ?_
    rw [e0, e3]
    exact congrArg (_ + ·) (bias_apply m c (y 1))

end Cert.KernelIdeal.Gather

end
-- ==== Proof.ReferenceValue.lean ====
/- The reference's result over exact numbers, where every row number lies in range: the same sum. -/
module

public import proofs.«01_k».proof.Proof.KernelValue
public import proofs.«01_k».proof.Proof.Gen.ReferenceIdeal.Run
public import proofs.«01_k».proof.Proof.Gen.ReferenceIdeal.Read
public import Idealize.ShloMosaic.Lib.Routing.Ops

@[expose] public section

noncomputable section

namespace Cert.ReferenceIdeal.Read

open Cert.ReferenceIdeal Cert.ReferenceIdeal.Gen
open Idealize.ShloMosaic Idealize.ShloMosaic.TcCoe Idealize.SL.Sem
open Idealize.ShloMosaic.ValueIdx

/-- What a row number in range is, read as a signed word: not negative, at most the last row. -/
theorem signed_small (x : BitVec 32) (h : x.toNat < 10000) :
    IntOp.cmpi .slt x 0#32 = 0#1 ∧ IntOp.cmpi .sge x 0#32 = 1#1 ∧ IntOp.cmpi .sle x 9999#32 = 1#1 := by
  have e : x.toInt = x.toNat := by rw [BitVec.toInt_eq_toNat_of_lt (by omega)]
  refine ⟨?_, ?_, ?_⟩
  · have : x.slt 0#32 = false := by simp [BitVec.slt, e]
    simp [IntOp.cmpi, this]
  · have : (0#32).sle x = true := by simp [BitVec.sle, e]
    simp [IntOp.cmpi, this]
  · have : x.sle 9999#32 = true := by
      simp only [BitVec.sle, e, decide_eq_true_eq]
      show (x.toNat : ℤ) ≤ 9999
      omega
    simp [IntOp.cmpi, this]

variable (X : S10000x128.Idx → EReal) (T : S4096.Idx → BitVec 32) (P : S10000x10000.Idx → EReal)
  (W : S128x128.Idx → EReal) (b : S128.Idx → EReal) (hT : ∀ y, (T y).toNat < 10000)

include hT

/-- The row numbers as gathered: a number in range is left alone. -/
theorem rows_apply (i : S4096x1.Idx) : val_main_call0_v5 (F := Ideal) T i = T (idx_main_call0_v5 i) := by
  rw [val_main_call0_v5_apply, val_main_call0_v4_apply, val_main_call0_v1_apply, val_main_call0_v0_apply,
    val_main_call0_c_apply, (signed_small _ (hT _)).1]
  rfl

/-- Every row number is found in range. -/
theorem found_apply (i : S4096x1.Idx) : val_main_call0_v11 (F := Ideal) T i = 1#1 := by
  rw [val_main_call0_v11_apply, val_main_call0_v7_apply, val_main_call0_v10_apply, rows_apply T hT, val_main_call0_v6_apply,
    val_main_call0_c_2_apply, val_main_call0_v9_apply, val_main_call0_v8_apply, val_main_call0_c_1_apply,
    (signed_small _ (hT _)).2.1, (signed_small _ (hT _)).2.2]
  rfl

theorem found_all (j : S4096.Idx) : val_main_call0_v12 (F := Ideal) T j = 1#1 := by
  unfold val_main_call0_v12
  rw [Host.reduce_eq_foldl]
  have go : ∀ (l : List S4096x1.Idx), l.foldl (fun r i => IntOp.andi r (val_main_call0_v11 (F := Ideal) T i)) 1#1 = 1#1 := by
    intro l
    induction l with
    | nil => rfl
    | cons a l ih => rw [List.foldl_cons, found_apply T hT]; exact ih
  exact go _

/-- The gathered rows. -/
theorem taken_apply (r : Fin 4096) (k : Fin 10000) :
    val_main_v4 (F := Ideal) T P (ix2 r k) = P (ix2 (⟨(T (ix1 r)).toNat, hT _⟩ : Fin 10000) k) := by
  rw [val_main_v4_apply, val_main_call0_v14_apply, found_all T hT, select_one]
  unfold val_main_call0_v13
  refine Routing.gather_row gather_S10000x10000_S4096x1_S4096x10000_1_0_n_n_0_1_110000 rfl rfl rfl rfl rfl P _ r k _ ?_ (by decide)
  rw [rows_apply T hT]
  have e : (idx_main_call0_v5 (ix2 r (0 : Fin 1))) = ix1 r := by
    funext a
    match a with
    | ⟨0, _⟩ => rfl
  rw [e]
  exact ((BitVec.ofNat_toNat _ _).trans (BitVec.setWidth_eq _)).symm

omit hT in
theorem table_apply (k : Fin 10000) (j : Fin 128) : val_main_v3 (F := Ideal) X W b (ix2 k j) = Cert.encoded X W b k j := by
  rw [val_main_v3_apply, val_main_v0_apply, val_main_v2_apply, val_main_v1_apply]
  refine congrArg₂ (· + ·) (Finset.sum_congr rfl fun q _ => congrArg₂ (· * ·) (congrArg X ?_) (congrArg W ?_)) (congrArg b ?_)
  · funext a
    match a with
    | ⟨0, _⟩ => rfl
    | ⟨1, _⟩ => rfl
  · funext a
    match a with
    | ⟨0, _⟩ => rfl
    | ⟨1, _⟩ => rfl
  · funext a
    match a with
    | ⟨0, _⟩ => rfl

theorem reference_apply (y : S4096x128.Idx) :
    val_main_v5 (F := Ideal) X T P W b y = Cert.looked X T P W b (y 0).val (y 1) := by
  rw [val_main_v5_apply]
  refine Finset.sum_congr rfl fun k _ => congrArg₂ (· * ·) ?_ ?_
  · have e : lidx_main_v5 y k = ix2 (y 0) k := by
      funext a
      match a with
      | ⟨0, _⟩ => rfl
      | ⟨1, _⟩ => rfl
    rw [e]
    refine (taken_apply T P hT (y 0) k).trans ?_
    refine congrArg (fun a : Fin 10000 => P (ix2 a k)) (Fin.ext ?_)
    exact (Cert.KernelIdeal.Gather.rowOf_eq T hT (y 0).val (y 0).isLt).symm
  · have e : ridx_main_v5 y k = ix2 k (y 1) := by
      funext a
      match a with
      | ⟨0, _⟩ => rfl
      | ⟨1, _⟩ => rfl
    rw [e]
    exact table_apply X W b k (y 1)

end Cert.ReferenceIdeal.Read

end
-- ==== Proof.Same.lean ====
/- The program as run and the program over exact numbers are one text: what is shown of the one, at any
   floats, holds of the other. -/
module

public import proofs.«01_k».proof.Defs
public import proofs.«01_k».proof.Proof.Gen.Kernel
public import proofs.«01_k».proof.Proof.Gen.KernelIdeal
public import Idealize.ShloMosaic.Adequacy
public import Idealize.ShloMosaic.Init

@[expose] public section

set_option maxRecDepth 65536

noncomputable section

namespace Cert.Same

open Idealize.ShloMosaic Idealize.SL.Sem

variable {F : FTy → Type} [FloatOps F]

theorem bodies : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | 0, (t, s) => rfl

theorem calls : Cert.Kernel.defs (F := F) = Cert.KernelIdeal.defs (F := F) := by
  unfold Cert.Kernel.defs Cert.KernelIdeal.defs
  exact congrArg (Pipeline.defs (Cert.KernelIdeal.pcfgs (F := F))) bodies

theorem mains : Cert.Kernel.main (F := F) = Cert.KernelIdeal.main (F := F) := rfl

end Cert.Same

end
-- ==== Proof.Range.lean ====
/- The precondition read back: every row number of the table lies in `[0, 10000)`. -/
module

public import proofs.«01_k».proof.Defs
public import proofs.«01_k».proof.Proof.Gen.Pre_rows_in_range
public import Idealize.ShloMosaic.Adequacy
public import Idealize.ShloMosaic.Init

@[expose] public section

namespace Cert.Range

open Idealize.ShloMosaic

theorem and_bits (a b : Bool) : IntOp.andi (BitVec.ofBool a) (BitVec.ofBool b) = BitVec.ofBool (a && b) := by
  cases a <;> cases b <;> rfl

theorem bit_one (a : Bool) : (BitVec.ofBool a = 1#1) = (a = true) := by
  cases a <;> simp

/-- A number at least zero and below ten thousand as a signed word is so as an unsigned one. -/
theorem small_of_signed (x : BitVec 32) (h0 : (0#32).sle x = true) (h1 : x.slt 10000#32 = true) : x.toNat < 10000 := by
  simp only [BitVec.sle, BitVec.slt, decide_eq_true_eq, BitVec.toInt, BitVec.toNat_ofNat] at h0 h1
  omega

theorem small_of_pre {F : FTy → Type} [FloatOps F] (a0 : FVec F Cert.Pre_rows_in_range.S10000x128 .f32)
    (a1 : IVec Cert.Pre_rows_in_range.S4096 32) (a2 : FVec F Cert.Pre_rows_in_range.S10000x10000 .f32)
    (a3 : FVec F Cert.Pre_rows_in_range.S128x128 .f32) (a4 : FVec F Cert.Pre_rows_in_range.S128 .f32)
    (h : Cert.Pre_rows_in_range.fn a0 a1 a2 a3 a4 = fun _ => 1#1) (y : Cert.Pre_rows_in_range.S4096.Idx) :
    (a1 y).toNat < 10000 := by
  have e := congrFun h y
  simp only [Cert.Pre_rows_in_range.fn, andi, cmpi, broadcastInDim, constantI, IntOp.cmpi, and_bits, bit_one,
    Bool.and_eq_true] at e
  exact small_of_signed _ e.1 e.2

end Cert.Range
-- ==== Proof.lean ====
/- The claims, put together from the run of the kernel, the run of the reference and the comparison of their
   results. -/
module

public import proofs.«01_k».proof.Defs
public import proofs.«01_k».proof.Proof.ReferenceValue
public import proofs.«01_k».proof.Proof.Same
public import proofs.«01_k».proof.Proof.Range
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_rows_in_range
public import Idealize.ShloMosaic.Adequacy
public import Idealize.ShloMosaic.Init

@[expose] public section

noncomputable section

namespace Cert.Proof

open Idealize.ShloMosaic Idealize.SL.Sem

theorem ideal_rows {m : (ℓ : Loc Cert.KernelIdeal.nD Cert.KernelIdeal.τ Cert.KernelIdeal.sig) → Buf (Elt Ideal) ℓ}
    (h : Cert.Pre_KernelIdeal m) : Cert.KernelIdeal.Gather.TableOk m := fun c y =>
  Cert.Range.small_of_pre _ _ _ _ _ (h c) y

theorem frame_ideal : Cert.quiescent_KernelIdeal := fun m g h =>
  (θ_run Cert.KernelIdeal.defs _ _).mono (fun _ r => ⟨fun c => (r.1 c).2, r.2⟩)
    (Cert.KernelIdeal.Gather.kernel_run m g (ideal_rows h))

theorem frame_bits : Cert.quiescent_Kernel := fun m g h => by
  rw [Cert.Same.calls, Cert.Same.mains]
  exact (θ_run Cert.KernelIdeal.defs _ _).mono (fun _ r => ⟨fun c => (r.1 c).2, r.2⟩)
    (Cert.KernelIdeal.Gather.kernel_run (F := Bits) m g
      (fun c y => Cert.Range.small_of_pre (F := Bits) _ _ _ _ _ (h c) y))

/-- The reference is host operations alone: it runs, leaves its arguments as they were and touches no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The two results are the one sum, from memories that agree on the arguments. -/
theorem same_result : Cert.algebraic_KernelIdeal_ReferenceIdeal := fun m g m' g' h ha => by
  have hk := ideal_rows h
  refine ⟨fun c => Cert.KernelIdeal.Gather.result m c, ?_, ?_⟩
  · exact (θ_run Cert.KernelIdeal.defs _ _).mono (fun _ r => r.1) (Cert.KernelIdeal.Gather.kernel_run m g hk)
  · refine (θ_run Cert.ReferenceIdeal.defs _ _).mono (fun _ r c => ⟨(r c).1.trans ?_, (r c).2⟩) (Cert.ReferenceIdeal.Value.run m' g')
    refine (Cert.ReferenceIdeal.Read.val_main_v5_eq _ _ _ _ _).trans ?_
    obtain ⟨a0, a1, a2, a3, a4⟩ := ha c
    rw [a0, a1, a2, a3, a4]
    funext y
    exact (Cert.ReferenceIdeal.Read.reference_apply _ _ _ _ _ (hk c) y).trans (Cert.KernelIdeal.Gather.result_apply m c y).symm

theorem claim : Cert.Claim := ⟨Cert.Kernel.Gen.facts, Cert.KernelIdeal.Gen.facts, Cert.ReferenceIdeal.Gen.facts, Cert.Pre_rows_in_range.Gen.facts,
  frame_bits, frame_ideal, frame_reference, fun m g _ => frame_reference m g trivial, trivial, same_result⟩

end Cert.Proof

end
